-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S256x1024 : Shape := ⟨2, ![256, 1024]⟩
abbrev S2048x8 : Shape := ⟨2, ![2048, 8]⟩
abbrev S2x1024x1024 : Shape := ⟨3, ![2, 1024, 1024]⟩
abbrev S7x256x1024 : Shape := ⟨3, ![7, 256, 1024]⟩
abbrev S2 : Shape := ⟨1, ![2]⟩
abbrev S7 : Shape := ⟨1, ![7]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S2048x64 : Shape := ⟨2, ![2048, 64]⟩
abbrev S2048 : Shape := ⟨1, ![2048]⟩
abbrev S2048x1 : Shape := ⟨2, ![2048, 1]⟩
abbrev S256x1 : Shape := ⟨2, ![256, 1]⟩
abbrev S1x256x1024 : Shape := ⟨3, ![1, 256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S8x1024x1024, .f32⟩
  | .hbm, ⟨4, _⟩ => ⟨S256x1024, .f32⟩
  | .local _ .vmem, ⟨0, _⟩ => ⟨S2048x1024, .f32⟩
  | .local _ .vmem, ⟨1, _⟩ => ⟨S1024x64, .f32⟩
  | .local _ .vmem, ⟨2, _⟩ => ⟨S2048x2, .i32⟩
  | .local _ .vmem, ⟨3, _⟩ => ⟨S256x1024, .f32⟩
  | .local _ .vmem, ⟨4, _⟩ => ⟨S2048x1024, .bf16⟩
  | .local _ .vmem, ⟨5, _⟩ => ⟨S2048x8, .f32⟩
  | .local _ .vmem, ⟨6, _⟩ => ⟨S8x1024x1024, .bf16⟩
  | .local _ .vmem, ⟨7, _⟩ => ⟨S2x1024x1024, .f32⟩
  | .local _ .vmem, ⟨8, _⟩ => ⟨S7x256x1024, .bf16⟩
  | .local _ .vmem, ⟨9, _⟩ => ⟨S7x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32 : BitVec 32 := 256#32
  let v125 : BitVec 32 := Scalar.muli v105 c256_i32
  let v126 : Index := Scalar.indexCast v125
  let c0_86 : Index := 0#32
  ![v126.toNat, 0]
def k0_off2 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32 : BitVec 32 := 256#32
  let v125 : BitVec 32 := Scalar.muli v105 c256_i32
  let v131 : Index := Scalar.indexCast v125
  let c0_91 : Index := 0#32
  ![v131.toNat, 0]
def k0_off3 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32_112 : BitVec 32 := 256#32
  let v154 : BitVec 32 := Scalar.muli v105 c256_i32_112
  let v160 : Index := Scalar.indexCast v154
  let c1_118 : Index := 1#32
  ![v160.toNat, 1]
def k0_off4 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32_138 : BitVec 32 := 256#32
  let v183 : BitVec 32 := Scalar.muli v105 c256_i32_138
  let v189 : Index := Scalar.indexCast v183
  let c2_144 : Index := 2#32
  ![v189.toNat, 2]
def k0_off5 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32_164 : BitVec 32 := 256#32
  let v212 : BitVec 32 := Scalar.muli v105 c256_i32_164
  let v218 : Index := Scalar.indexCast v212
  let c3_170 : Index := 3#32
  ![v218.toNat, 3]
def k0_off6 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32_190 : BitVec 32 := 256#32
  let v241 : BitVec 32 := Scalar.muli v105 c256_i32_190
  let v247 : Index := Scalar.indexCast v241
  let c4_196 : Index := 4#32
  ![v247.toNat, 4]
def k0_off7 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32_216 : BitVec 32 := 256#32
  let v270 : BitVec 32 := Scalar.muli v105 c256_i32_216
  let v276 : Index := Scalar.indexCast v270
  let c5_222 : Index := 5#32
  ![v276.toNat, 5]
def k0_off8 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32_235 : BitVec 32 := 256#32
  let v293 : BitVec 32 := Scalar.muli v105 c256_i32_235
  let v299 : Index := Scalar.indexCast v293
  let c6_241 : Index := 6#32
  ![v299.toNat, 6]
def k0_off9 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c1_i32_63
  let c8_i32_64 : BitVec 32 := 8#32
  let v105 : BitVec 32 := Scalar.remsi v104 c8_i32_64
  let c256_i32_254 : BitVec 32 := 256#32
  let v316 : BitVec 32 := Scalar.muli v105 c256_i32_254
  let v322 : Index := Scalar.indexCast v316
  let c7_260 : Index := 7#32
  ![v322.toNat, 7]
def k0_dev8 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_262 : BitVec 32 := 1#32
  let v327 : BitVec 32 := Scalar.addi v2 c1_i32_262
  let c8_i32_263 : BitVec 32 := 8#32
  let v328 : BitVec 32 := Scalar.remsi v327 c8_i32_263
  let c1_i32_271 : BitVec 32 := 1#32
  let v333 : BitVec 32 := Scalar.muli v328 c1_i32_271
  let v334 : BitVec 32 := Scalar.addi c0_i32_272 v333
  v334.toNat
def k0_dev9 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_277 : BitVec 32 := 2#32
  let v343 : BitVec 32 := Scalar.addi v2 c2_i32_277
  let c8_i32_278 : BitVec 32 := 8#32
  let v344 : BitVec 32 := Scalar.remsi v343 c8_i32_278
  let c1_i32_343 : BitVec 32 := 1#32
  let v438 : BitVec 32 := Scalar.muli v344 c1_i32_343
  let v439 : BitVec 32 := Scalar.addi c0_i32_344 v438
  v439.toNat
def k0_dev10 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_349 : BitVec 32 := 3#32
  let v448 : BitVec 32 := Scalar.addi v2 c3_i32_349
  let c8_i32_350 : BitVec 32 := 8#32
  let v449 : BitVec 32 := Scalar.remsi v448 c8_i32_350
  let c1_i32_415 : BitVec 32 := 1#32
  let v543 : BitVec 32 := Scalar.muli v449 c1_i32_415
  let v544 : BitVec 32 := Scalar.addi c0_i32_416 v543
  v544.toNat
def k0_dev11 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_421 : BitVec 32 := 4#32
  let v553 : BitVec 32 := Scalar.addi v2 c4_i32_421
  let c8_i32_422 : BitVec 32 := 8#32
  let v554 : BitVec 32 := Scalar.remsi v553 c8_i32_422
  let c1_i32_487 : BitVec 32 := 1#32
  let v648 : BitVec 32 := Scalar.muli v554 c1_i32_487
  let v649 : BitVec 32 := Scalar.addi c0_i32_488 v648
  v649.toNat
def k0_dev12 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_493 : BitVec 32 := 5#32
  let v658 : BitVec 32 := Scalar.addi v2 c5_i32_493
  let c8_i32_494 : BitVec 32 := 8#32
  let v659 : BitVec 32 := Scalar.remsi v658 c8_i32_494
  let c1_i32_559 : BitVec 32 := 1#32
  let v753 : BitVec 32 := Scalar.muli v659 c1_i32_559
  let v754 : BitVec 32 := Scalar.addi c0_i32_560 v753
  v754.toNat
def k0_dev13 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_565 : BitVec 32 := 6#32
  let v763 : BitVec 32 := Scalar.addi v2 c6_i32_565
  let c8_i32_566 : BitVec 32 := 8#32
  let v764 : BitVec 32 := Scalar.remsi v763 c8_i32_566
  let c1_i32_631 : BitVec 32 := 1#32
  let v858 : BitVec 32 := Scalar.muli v764 c1_i32_631
  let v859 : BitVec 32 := Scalar.addi c0_i32_632 v858
  v859.toNat
def k0_dev14 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_637 : BitVec 32 := 7#32
  let v868 : BitVec 32 := Scalar.addi v2 c7_i32_637
  let c8_i32_638 : BitVec 32 := 8#32
  let v869 : BitVec 32 := Scalar.remsi v868 c8_i32_638
  let c1_i32_703 : BitVec 32 := 1#32
  let v963 : BitVec 32 := Scalar.muli v869 c1_i32_703
  let v964 : BitVec 32 := Scalar.addi c0_i32_704 v963
  v964.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_710 : BitVec 32 := 256#32
  let v974 : BitVec 32 := Scalar.muli v2 c256_i32_710
  let v975 : Index := Scalar.indexCast v974
  let c0_711 : Index := 0#32
  ![v975.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_710 : BitVec 32 := 256#32
  let v974 : BitVec 32 := Scalar.muli v2 c256_i32_710
  let v980 : Index := Scalar.indexCast v974
  let c0_716 : Index := 0#32
  ![v980.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_717 : BitVec 32 := 256#32
  let v985 : BitVec 32 := Scalar.muli v2 c256_i32_717
  let v991 : Index := Scalar.indexCast v985
  let c1_723 : Index := 1#32
  ![v991.toNat, 1]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_724 : BitVec 32 := 256#32
  let v996 : BitVec 32 := Scalar.muli v2 c256_i32_724
  let v1002 : Index := Scalar.indexCast v996
  let c2_730 : Index := 2#32
  ![v1002.toNat, 2]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_731 : BitVec 32 := 256#32
  let v1007 : BitVec 32 := Scalar.muli v2 c256_i32_731
  let v1013 : Index := Scalar.indexCast v1007
  let c3_737 : Index := 3#32
  ![v1013.toNat, 3]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_738 : BitVec 32 := 256#32
  let v1018 : BitVec 32 := Scalar.muli v2 c256_i32_738
  let v1024 : Index := Scalar.indexCast v1018
  let c4_744 : Index := 4#32
  ![v1024.toNat, 4]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_745 : BitVec 32 := 256#32
  let v1029 : BitVec 32 := Scalar.muli v2 c256_i32_745
  let v1035 : Index := Scalar.indexCast v1029
  let c5_751 : Index := 5#32
  ![v1035.toNat, 5]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_752 : BitVec 32 := 256#32
  let v1040 : BitVec 32 := Scalar.muli v2 c256_i32_752
  let v1046 : Index := Scalar.indexCast v1040
  let c6_758 : Index := 6#32
  ![v1046.toNat, 6]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_759 : BitVec 32 := 256#32
  let v1051 : BitVec 32 := Scalar.muli v2 c256_i32_759
  let v1057 : Index := Scalar.indexCast v1051
  let c7_765 : Index := 7#32
  ![v1057.toNat, 7]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x2 : Shape := ⟨2, ![2048, 2]⟩
abbrev S64x1024x1024 : Shape := ⟨3, ![64, 1024, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1 : Shape := ⟨1, ![1]⟩
abbrev S1x1x1 : Shape := ⟨3, ![1, 1, 1]⟩
abbrev S2048x64x1024 : Shape := ⟨3, ![2048, 64, 1024]⟩
abbrev S2048x2x1024 : Shape := ⟨3, ![2048, 2, 1024]⟩
abbrev S2048x1x1024 : Shape := ⟨3, ![2048, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S64x1024x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048x2x1, .i32⟩
  | .hbm, ⟨17, _⟩ => ⟨S1, .i32⟩
  | .hbm, ⟨18, _⟩ => ⟨S_, .i32⟩
  | .hbm, ⟨19, _⟩ => ⟨S2048x2x1, .i32⟩
  | .hbm, ⟨20, _⟩ => ⟨S2048x2x1, .i1⟩
  | .hbm, ⟨21, _⟩ => ⟨S1x1x1, .i32⟩
  | .hbm, ⟨22, _⟩ => ⟨S2048x2x1, .i32⟩
  | .hbm, ⟨23, _⟩ => ⟨S2048x2x1, .i1⟩
  | .hbm, ⟨24, _⟩ => ⟨S2048x2x1, .i1⟩
  | .hbm, ⟨25, _⟩ => ⟨S_, .i1⟩
  | .hbm, ⟨26, _⟩ => ⟨S2048x2, .i1⟩
  | .hbm, ⟨27, _⟩ => ⟨S2048x2, .f32⟩
  | .hbm, ⟨28, _⟩ => ⟨S_, .f32⟩
  | .hbm, ⟨29, _⟩ => ⟨S2048x2, .f32⟩
  | .hbm, ⟨30, _⟩ => ⟨S2048x2, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x64x1024, .f32⟩
  | .hbm, ⟨35, _⟩ => ⟨S2048x2x1, .i32⟩
  | .hbm, ⟨36, _⟩ => ⟨S1, .i32⟩
  | .hbm, ⟨37, _⟩ => ⟨S_, .i32⟩
  | .hbm, ⟨38, _⟩ => ⟨S2048x2x1, .i32⟩
  | .hbm, ⟨39, _⟩ => ⟨S2048x2x1, .i1⟩
  | .hbm, ⟨40, _⟩ => ⟨S1x1x1, .i32⟩
  | .hbm, ⟨41, _⟩ => ⟨S2048x2x1, .i32⟩
  | .hbm, ⟨42, _⟩ => ⟨S2048x2x1, .i1⟩
  | .hbm, ⟨43, _⟩ => ⟨S2048x2x1, .i1⟩
  | .hbm, ⟨44, _⟩ => ⟨S_, .i1⟩
  | .hbm, ⟨45, _⟩ => ⟨S2048x2, .i1⟩
  | .hbm, ⟨46, _⟩ => ⟨S2048x2x1024, .f32⟩
  | .hbm, ⟨47, _⟩ => ⟨S2048x2x1024, .i1⟩
  | .hbm, ⟨48, _⟩ => ⟨S_, .f32⟩
  | .hbm, ⟨49, _⟩ => ⟨S2048x2x1024, .f32⟩
  | .hbm, ⟨50, _⟩ => ⟨S2048x2x1024, .f32⟩
  | .hbm, ⟨51, _⟩ => ⟨S2048x1, .f32⟩
  | .hbm, ⟨52, _⟩ => ⟨S2048x1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S2048x1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.Proto.lean ====
/-
# The exchange between the devices

Each of the eight devices computes, for every device, one chunk of 256 rows of the output from its own experts. It keeps
the chunk that is its own and sends each of the seven others, cast to bf16, straight to the device that sums it. Device
`c`'s transfer `k` (`k = 0 .. 6`) goes to the device `k + 1` places further round (`dst c k`), from slot `k` of `c`'s
send buffer into slot `6 - k` of that device's landing buffer.

Before any transfer, every device signals each of the seven others once on its barrier semaphore, and waits for the
seven signals it is sent itself. The signal a device sends to `dst c k` hands over the one slot of its landing buffer
that this device is to fill.

This module states that as a schedule of rounds: one cell per barrier semaphore, with seven duties of one unit, and one
cell for each of the fourteen transfer semaphores of a device, with one duty of the transfer's size. It then proves the
rule for each of the five remote steps, once for all seven slots: the signal, the barrier wait, the transfer, the wait
for an arrival and the wait for a departure. The contents of the send buffers are a parameter.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

/-! ## The resources

The index of a wait is `false` for a device's own transfers (the staging of the operands and of the weights) and `true`
for the exchange. -/

/-- The tokens of the exchange. -/
abbrev UB : Type := URounds (GSem nD τ sig) (Fin 7)
/-- All the ghost state: the pipeline's, the exchange's, and counters. -/
abbrev UU : Type := UR sig nD τ × (UB × Counters)

local notation "𝕄" => MT nD τ sig Bool (Elt F) ℕ UU ℕ

/-- Where the pipeline's part sits. -/
abbrev EP : Emb (UR sig nD τ) (MT nD τ sig Bool (Elt F) ℕ UU ℕ) := embL
/-- Where the exchange's part sits. -/
abbrev ER : Emb UB (MT nD τ sig Bool (Elt F) ℕ UU ℕ) :=
  (Emb.inl : Emb UB (UB × Counters)).trans (embR : Emb (UB × Counters) (MT nD τ sig Bool (Elt F) ℕ UU ℕ))

/-- Nothing recurses. -/
abbrev 𝒱₀ : Variants := Variants.none

/-! ## Who sends to whom -/

/-- The device `k + 1` places after `c`, round the eight. -/
def dst (c : Dev nD) (k : Fin 7) : Dev nD := ⟨(c.val + k.val + 1) % 8, Nat.mod_lt _ (by decide)⟩

/-- Going `k + 1` places further and then the other way round the ring comes back. -/
theorem dst_dst_rev (c : Dev nD) (k : Fin 7) : dst (dst c k) (Fin.rev k) = c := by revert c k; decide
/-- The same, in the other order. -/
theorem dst_rev_dst (c : Dev nD) (k : Fin 7) : dst (dst c (Fin.rev k)) k = c := by revert c k; decide
/-- Different distances reach different devices. -/
theorem dst_inj_right (c : Dev nD) {j k : Fin 7} (h : dst c j = dst c k) : j = k := by revert c j k; decide

/-- Moving every device by `k + 1` places. -/
def turn (k : Fin 7) : Dev nD ≃ Dev nD :=
  ⟨fun c => dst c k, fun c => dst c (Fin.rev k), fun c => dst_dst_rev c k, fun c => dst_rev_dst c k⟩

/-! ## The slots -/

/-- A slot lies within its buffer. -/
theorem slot_inb (k : Fin 7) : ∀ a : Fin 3, (![k.val, 0, 0] : Fin 3 → ℕ) a + S1x256x1024.size a ≤ S7x256x1024.size a := by
  revert k; decide

/-- Slot `k` of the send buffer. -/
abbrev pSlot (k : Fin 7) : Memref sig .tc .vmem S256x1024 .bf16 :=
  ((Memref.whole cc0_scratch4).slice (Rect.unit (s := S7x256x1024) ![k.val, 0, 0] S1x256x1024.size (slot_inb k)) (fun _ => rfl)).squeeze
    S256x1024 squeezes_S1x256x1024_S256x1024
/-- Slot `k` of the landing buffer. -/
abbrev rSlot (k : Fin 7) : Memref sig .tc .vmem S256x1024 .bf16 :=
  ((Memref.whole cc0_scratch5).slice (Rect.unit (s := S7x256x1024) ![k.val, 0, 0] S1x256x1024.size (slot_inb k)) (fun _ => rfl)).squeeze
    S256x1024 squeezes_S1x256x1024_S256x1024

/-- The indices of slot `k`. -/
def slotSet (k : Fin 7) : Finset S7x256x1024.Idx := (Rect.unit (s := S7x256x1024) ![k.val, 0, 0] S1x256x1024.size (slot_inb k)).set

/-- An index is in slot `k` when its first coordinate is `k`. -/
theorem mem_slotSet (k : Fin 7) (i : S7x256x1024.Idx) : Iff (i ∈ slotSet k) ((i 0).val = k.val) := by
  unfold slotSet
  rw [Rect.mem_set_unit]
  constructor
  · intro h
    have h0 := h 0
    simp only [Matrix.cons_val_zero] at h0
    have : S1x256x1024.size 0 = 1 := rfl
    omega
  · intro h a
    fin_cases a
    · exact ⟨le_of_eq h.symm, by show (i 0).val < k.val + 1; omega⟩
    · exact ⟨Nat.zero_le _, by show (i 1).val < 0 + 256; have := (i 1).isLt; simpa using this⟩
    · exact ⟨Nat.zero_le _, by show (i 2).val < 0 + 1024; have := (i 2).isLt; simpa using this⟩

/-- The places of a slot of the send buffer. -/
theorem pSlot_set (k : Fin 7) : (pSlot k).view.set = slotSet k :=
  (View.set_reshape (v := ((Memref.whole cc0_scratch4).slice (Rect.unit (s := S7x256x1024) ![k.val, 0, 0] S1x256x1024.size (slot_inb k)) (fun _ => rfl)).view) _).trans
    (View.set_slice_whole _ _)
/-- The places of a slot of the landing buffer. -/
theorem rSlot_set (k : Fin 7) : (rSlot k).view.set = slotSet k :=
  (View.set_reshape (v := ((Memref.whole cc0_scratch5).slice (Rect.unit (s := S7x256x1024) ![k.val, 0, 0] S1x256x1024.size (slot_inb k)) (fun _ => rfl)).view) _).trans
    (View.set_slice_whole _ _)

/-- Different slots share no place. -/
theorem slot_disjoint (j k : Fin 7) (h : j ≠ k) : Disjoint (slotSet j) (slotSet k) :=
  Finset.disjoint_left.mpr fun i hj hk => h (Fin.ext (((mem_slotSet j i).mp hj).symm.trans ((mem_slotSet k i).mp hk)))

/-- The seven slots are the whole buffer. -/
theorem slot_union : (Finset.univ : Finset (Fin 7)).biUnion slotSet = Finset.univ :=
  Finset.eq_univ_iff_forall.mpr fun i => Finset.mem_biUnion.mpr ⟨i 0, Finset.mem_univ _, (mem_slotSet _ i).mpr rfl⟩

/-! ## The cells -/

/-- The barrier semaphore of the kernel, one per device. -/
abbrev barS : Sem sig := (SemArray.scalar (sig.barrier 0 rfl) : Sems sig S_).sem
/-- The semaphore of departure `k`. -/
def sendS (k : Fin 7) : DmaSem sig := ⟨6 + k.val, by have := k.2; show 6 + k.val < 20; omega⟩
/-- The semaphore of the arrival in slot `k`. -/
def recvS (k : Fin 7) : DmaSem sig := ⟨13 + k.val, by have := k.2; show 13 + k.val < 20; omega⟩

/-- The barrier semaphore of a device. -/
abbrev barCell (c : Dev nD) : GSem nD τ sig := ((c : Thread nD τ), .reg barS)
/-- The semaphore that counts what left slot `k`. -/
abbrev sendCell (c : Dev nD) (k : Fin 7) : GSem nD τ sig := ((c : Thread nD τ), .dma (sendS k))
/-- The semaphore that counts what arrived in slot `k`. -/
abbrev recvCell (c : Dev nD) (k : Fin 7) : GSem nD τ sig := ((c : Thread nD τ), .dma (recvS k))

/-- What a transfer of one slot counts. -/
abbrev N : ℕ := (rSlot 0).view.dmaCredit
/-- A transfer counts for something. -/
theorem N_pos : 0 < N := View.dmaCredit_pos _ (by decide)

/-- What a landing slot counts for. -/
theorem amount_rSlot (k : Fin 7) (q : DmaSem sig) : (rSlot k).view.amount (.dma q) = N := rfl
/-- What a transfer into a landing slot counts for. -/
theorem credit_rSlot (k : Fin 7) : (rSlot k).view.dmaCredit = N := rfl
/-- What a transfer out of a send slot counts for. -/
theorem credit_pSlot (k : Fin 7) : (pSlot k).view.dmaCredit = N := rfl

/-! ## The contents -/

/-- Contents of every device's send buffer. -/
abbrev Parts (F : FTy → Type) : Type := (c : Dev nD) → (cc0_scratch4 : Ref sig .tc).ty.Contents (Elt F)

variable (PB : Parts F)

/-- The same place in the slot counted from the other end. -/
def flipSlot (i : S7x256x1024.Idx) : S7x256x1024.Idx := ix3 (Fin.rev (n := 7) (i 0)) (i 1) (i 2)

/-- Contents of a device's landing buffer when everything has arrived: slot `s` of device `c` is slot `6 - s` of the
    send buffer of the device `s + 1` places further. -/
def landed (c : Dev nD) : (cc0_scratch5 : Ref sig .tc).ty.Contents (Elt F) :=
  fun i => PB (dst c (i 0)) (flipSlot i)

/-- Slot `k` of device `c`'s send buffer, holding `f` there. -/
def pPts (c : Dev nD) (k : Fin 7) (f : (cc0_scratch4 : Ref sig .tc).ty.Contents (Elt F)) : sProp 𝕄 :=
  (pSlot k).view.loc (c : Thread nD τ) ↦[(pSlot k).view.set]{fullShare} f
/-- Slot `k` of device `c`'s landing buffer, holding `f` there. -/
def rPts (c : Dev nD) (k : Fin 7) (f : (cc0_scratch5 : Ref sig .tc).ty.Contents (Elt F)) : sProp 𝕄 :=
  (rSlot k).view.loc (c : Thread nD τ) ↦[(rSlot k).view.set]{fullShare} f

omit [FloatOps F] in
/-- Owning a send slot can be kept in an invariant. -/
instance pPts_storable (c : Dev nD) (k : Fin 7) (f) : BI.Storable (upEmb : UEmb _ 𝕄) (pPts (F := F) c k f) := by unfold pPts; infer_instance
omit [FloatOps F] in
/-- Owning a landing slot can be kept in an invariant. -/
instance rPts_storable (c : Dev nD) (k : Fin 7) (f) : BI.Storable (upEmb : UEmb _ 𝕄) (rPts (F := F) c k f) := by unfold rPts; infer_instance

omit [FloatOps F] in
/-- The send buffer cut into its slots. -/
theorem part_split (c : Dev nD) (f : (cc0_scratch4 : Ref sig .tc).ty.Contents (Elt F)) :
    (((c : Thread nD τ).loc cc0_scratch4) ↦{fullShare} f : sProp 𝕄) = bigSep Finset.univ fun k : Fin 7 => pPts c k f := by
  have h := pointsTo_biUnion (Ix := Bool) (Name := ℕ) (U := UU) (Lvl := ℕ) (q := fullShare) (ℓ := (c : Thread nD τ).loc cc0_scratch4) (f := f)
    (Finset.univ : Finset (Fin 7)) slotSet fun j _ k _ h => slot_disjoint j k h
  rw [slot_union] at h
  refine h.trans (bigSep_congr fun k _ => ?_)
  unfold pPts; rw [pSlot_set]
omit [FloatOps F] in
/-- The landing buffer cut into its slots. -/
theorem recv_split (c : Dev nD) (f : (cc0_scratch5 : Ref sig .tc).ty.Contents (Elt F)) :
    (((c : Thread nD τ).loc cc0_scratch5) ↦{fullShare} f : sProp 𝕄) = bigSep Finset.univ fun k : Fin 7 => rPts c k f := by
  have h := pointsTo_biUnion (Ix := Bool) (Name := ℕ) (U := UU) (Lvl := ℕ) (q := fullShare) (ℓ := (c : Thread nD τ).loc cc0_scratch5) (f := f)
    (Finset.univ : Finset (Fin 7)) slotSet fun j _ k _ h => slot_disjoint j k h
  rw [slot_union] at h
  refine h.trans (bigSep_congr fun k _ => ?_)
  unfold rPts; rw [rSlot_set]

/-- Two indices at the same place of opposite slots. -/
theorem slot_shift (i j : S7x256x1024.Idx) (k : Fin 7) (hi : (i 0 : Fin 7) = Fin.rev k) (hj : (j 0 : Fin 7) = k) (h1 : (j 1).val = (i 1).val)
    (h2 : (j 2).val = (i 2).val) : j = flipSlot i := by
  funext a
  fin_cases a
  · exact hj.trans ((Fin.rev_rev k).symm.trans (congrArg Fin.rev hi.symm))
  · exact Fin.ext h1
  · exact Fin.ext h2

omit [FloatOps F] in
/-- What transfer `k` of device `c` leaves in its target slot is what the target expects there. -/
theorem landed_eq (c : Dev nD) (k : Fin 7) (fd : (cc0_scratch5 : Ref sig .tc).ty.Contents (Elt F))
    (i : S7x256x1024.Idx) (hi : i ∈ (rSlot (Fin.rev k)).view.set) :
    (rSlot (Fin.rev k)).view.write (Elt F) fd ((pSlot k).view.read (Elt F) (PB c)) Finset.univ i = landed PB (dst c k) i := by
  obtain ⟨x, -, rfl⟩ := Finset.mem_map.mp hi
  rw [View.write_emb_of_mem _ _ (Finset.mem_univ x), View.read_apply]
  have hk : (((rSlot (Fin.rev k)).view.emb x : S7x256x1024.Idx) 0).val = (Fin.rev k).val := by
    have := hi; rw [rSlot_set] at this; exact (mem_slotSet _ _).mp this
  have h0 : (((rSlot (Fin.rev k)).view.emb x : S7x256x1024.Idx) 0 : Fin 7) = Fin.rev k := Fin.ext hk
  have hp0 : (((pSlot k).view.emb x : S7x256x1024.Idx) 0).val = k.val := by
    refine (mem_slotSet k _).mp ?_
    rw [← pSlot_set]; exact View.emb_mem_set _ x
  have hp := slot_shift ((rSlot (Fin.rev k)).view.emb x : S7x256x1024.Idx) ((pSlot k).view.emb x : S7x256x1024.Idx) k h0 (Fin.ext hp0) rfl rfl
  show PB c ((pSlot k).view.emb x) = PB (dst (dst c k) (((rSlot (Fin.rev k)).view.emb x : S7x256x1024.Idx) 0)) (flipSlot _)
  rw [← hp]
  exact congrArg (fun d => PB d ((pSlot k).view.emb x)) ((dst_dst_rev c k).symm.trans (congrArg (dst (dst c k)) h0.symm))

/-! ## The schedule -/

/-- What the signal from `dst c j` hands device `c`: the slot of that device's landing buffer that `c` is to fill. -/
def barPay (c : Dev nD) (j : Fin 7) : sProp 𝕄 := iprop(∃ f, rPts (F := F) (dst c j) (Fin.rev j) f)

omit [FloatOps F] in
/-- What a signal hands over can be kept in an invariant. -/
instance barPay_storable (c : Dev nD) (j : Fin 7) : BI.Storable (upEmb : UEmb _ 𝕄) (barPay (F := F) c j) := by unfold barPay; infer_instance

/-- A barrier semaphore. -/
abbrev IsBar (g : GSem nD τ sig) : Prop := g.1.2 = .tc ∧ g.2 = .reg barS
/-- A semaphore of a transfer. -/
abbrev IsXfer (g : GSem nD τ sig) : Prop := g.1.2 = .tc ∧ ∃ k : Fin 7, g.2 = .dma (sendS k) ∨ g.2 = .dma (recvS k)

/-- The payload of a semaphore's duty: a barrier unit brings a slot to fill, a departure the sent slot back, an arrival the
    landed slot. -/
def payOf (c : Dev nD) (sm : SemLoc sig) (d : Fin 7) : sProp 𝕄 :=
  match sm with
  | .reg _ => barPay c d
  | .dma q =>
    if h : 6 ≤ q.val ∧ q.val < 13 then pPts c ⟨q.val - 6, by omega⟩ (PB c)
    else if h : 13 ≤ q.val then rPts c ⟨q.val - 13, by have : q.val < 20 := q.isLt; omega⟩ (landed PB c)
    else iprop(emp)

omit [FloatOps F] in
/-- What a semaphore hands over can be kept in an invariant. -/
instance payOf_storable (c : Dev nD) (sm : SemLoc sig) (d : Fin 7) : BI.Storable (upEmb : UEmb _ 𝕄) (payOf PB c sm d) := by
  unfold payOf; split
  · infer_instance
  · (repeat' split) <;> infer_instance

/-- One round: a barrier cell has seven duties of one unit, a transfer's cell one duty of the transfer's size. -/
def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := payOf PB g.1.1 g.2 d
  amount_pos g _ _ _ := by
    by_cases h : g.2 = .reg barS
    · rw [if_pos h]; exact Nat.one_pos
    · rw [if_neg h]; exact N_pos

omit [FloatOps F] in
/-- The same, for the schedule. -/
instance sched_payload_storable (g : GSem nD τ sig) (r : ℕ) (d : Fin 7) :
    BI.Storable (upEmb : UEmb _ 𝕄) ((sched PB).payload g r d) := payOf_storable PB g.1.1 g.2 d

/-- A transfer's semaphore is no barrier. -/
theorem dma_ne_bar (q : DmaSem sig) : (SemLoc.dma q : SemLoc sig) ≠ .reg barS := fun h => by cases h
/-- Different slots leave on different semaphores. -/
theorem sendS_inj {j k : Fin 7} (h : sendS j = sendS k) : j = k := by
  have := congrArg Fin.val h; exact Fin.ext (Nat.add_left_cancel this)
/-- Different slots arrive on different semaphores. -/
theorem recvS_inj {j k : Fin 7} (h : recvS j = recvS k) : j = k := by
  have := congrArg Fin.val h; exact Fin.ext (Nat.add_left_cancel this)
/-- Leaving and arriving are counted apart. -/
theorem sendS_ne_recvS (j k : Fin 7) : sendS j ≠ recvS k := fun h => by
  have := congrArg Fin.val h; have h1 := j.2; simp only [sendS, recvS] at this; omega

section Tables
variable (c : Dev nD) (k : Fin 7)

omit [FloatOps F] in
/-- Seven signals are due at a barrier. -/
theorem duties_bar : (sched PB).duties (barCell c) 0 = Finset.univ := by dsimp only [sched]; exact if_pos ⟨rfl, rfl, rfl⟩
omit [FloatOps F] in
/-- One transfer is due out of a slot. -/
theorem duties_send : (sched PB).duties (sendCell c k) 0 = {0} := by
  dsimp only [sched]; rw [if_neg (fun h => dma_ne_bar _ h.2.2)]; exact if_pos ⟨rfl, rfl, k, .inl rfl⟩
omit [FloatOps F] in
/-- One transfer is due into a slot. -/
theorem duties_recv : (sched PB).duties (recvCell c k) 0 = {0} := by
  dsimp only [sched]; rw [if_neg (fun h => dma_ne_bar _ h.2.2)]; exact if_pos ⟨rfl, rfl, k, .inr rfl⟩
omit [FloatOps F] in
/-- There is one round only. -/
theorem duties_later (g : GSem nD τ sig) : ∀ r, 1 ≤ r → (sched PB).duties g r = ∅ :=
  fun r hr => by dsimp only [sched]; rw [if_neg fun h => by omega, if_neg fun h => by omega]

omit [FloatOps F] in
/-- A signal counts for one. -/
theorem amount_bar (d : Fin 7) : (sched PB).amount (barCell c) 0 d = 1 := by dsimp only [sched]; exact if_pos rfl
omit [FloatOps F] in
/-- A transfer counts for its size. -/
theorem amount_dma (q : DmaSem sig) (d : Fin 7) : (sched PB).amount ((c : Thread nD τ), .dma q) 0 d = N := by
  dsimp only [sched]; exact if_neg (dma_ne_bar q)

omit [FloatOps F] in
/-- A barrier waits for seven. -/
theorem expect_bar : (sched PB).expect (barCell c) 0 = 7 := by
  unfold Schedule.expect Schedule.amountOf
  rw [duties_bar, Finset.sum_congr rfl fun d _ => amount_bar PB c d, Finset.sum_const, Finset.card_univ, Fintype.card_fin, smul_eq_mul]
omit [FloatOps F] in
/-- Leaving waits for the whole slot. -/
theorem expect_send : (sched PB).expect (sendCell c k) 0 = N := by
  unfold Schedule.expect Schedule.amountOf; rw [duties_send, Finset.sum_singleton, amount_dma]
omit [FloatOps F] in
/-- Arriving waits for the whole slot. -/
theorem expect_recv : (sched PB).expect (recvCell c k) 0 = N := by
  unfold Schedule.expect Schedule.amountOf; rw [duties_recv, Finset.sum_singleton, amount_dma]

omit [FloatOps F] in
/-- What a signal hands over. -/
theorem payload_bar (d : Fin 7) : (sched PB).payload (barCell c) 0 d = barPay c d := rfl
omit [FloatOps F] in
/-- A slot that has left comes back as it was. -/
theorem payload_send (d : Fin 7) : (sched PB).payload (sendCell c k) 0 d = pPts c k (PB c) := by
  show payOf PB c (.dma (sendS k)) d = _
  have hk := k.2
  have h : 6 ≤ (sendS k).val ∧ (sendS k).val < 13 := by simp only [sendS]; omega
  unfold payOf
  simp only [dif_pos h]
  have e : (⟨(sendS k).val - 6, by omega⟩ : Fin 7) = k := Fin.ext (by simp only [sendS]; omega)
  rw [e]
omit [FloatOps F] in
/-- A slot that has arrived holds what was sent. -/
theorem payload_recv (d : Fin 7) : (sched PB).payload (recvCell c k) 0 d = rPts c k (landed PB c) := by
  show payOf PB c (.dma (recvS k)) d = _
  have hk := k.2
  have h : ¬ (6 ≤ (recvS k).val ∧ (recvS k).val < 13) := by simp only [recvS]; omega
  have h' : 13 ≤ (recvS k).val := by simp only [recvS]; omega
  unfold payOf
  simp only [dif_neg h, dif_pos h']
  have e : (⟨(recvS k).val - 13, by simp only [recvS]; omega⟩ : Fin 7) = k := Fin.ext (by simp only [recvS]; omega)
  rw [e]

omit [FloatOps F] in
/-- All that a barrier's wait hands over. -/
theorem rest_bar : bigSep ((sched PB).duties (barCell c) 0 \ ∅) (fun d => (sched PB).payload (barCell c) 0 d)
    = bigSep Finset.univ fun j : Fin 7 => barPay (F := F) c j := by
  rw [Finset.sdiff_empty, duties_bar]; rfl
omit [FloatOps F] in
/-- All that the wait for leaving hands over. -/
theorem rest_send : bigSep ((sched PB).duties (sendCell c k) 0 \ ∅) (fun d => (sched PB).payload (sendCell c k) 0 d) = pPts c k (PB c) := by
  rw [Finset.sdiff_empty, duties_send, bigSep_singleton, payload_send]
omit [FloatOps F] in
/-- All that the wait for an arrival hands over. -/
theorem rest_recv : bigSep ((sched PB).duties (recvCell c k) 0 \ ∅) (fun d => (sched PB).payload (recvCell c k) 0 d) = rPts c k (landed PB c) := by
  rw [Finset.sdiff_empty, duties_recv, bigSep_singleton, payload_recv]

end Tables

/-! ## What a device owes -/

/-- The transfers `n, …, 6` device `c` has still to make. -/
def Os (c : Dev nD) (n : ℕ) : CellTallies nD τ sig Bool :=
  ∑ k : Fin 7, if n ≤ k.val then tallyAt (recvCell (dst c k) (Fin.rev k)) true N else 0
/-- The signals `n, …, 6` device `c` has still to send. -/
def Ob (c : Dev nD) (n : ℕ) : CellTallies nD τ sig Bool :=
  ∑ k : Fin 7, if n ≤ k.val then tallyAt (barCell (dst c k)) true 1 else 0
/-- What device `c` owes at launch. -/
def O₀ (c : Dev nD) : CellTallies nD τ sig Bool := Os c 0 + Ob c 0

/-- Taking the term at `n` off a sum over the indices from `n` on. -/
theorem sum_from_succ (A : Fin 7 → CellTallies nD τ sig Bool) (k : Fin 7) :
    (∑ j : Fin 7, if k.val ≤ j.val then A j else 0) = (∑ j : Fin 7, if k.val + 1 ≤ j.val then A j else 0) + A k := by
  rw [← Finset.add_sum_erase _ _ (Finset.mem_univ k),
    ← Finset.add_sum_erase Finset.univ (fun j : Fin 7 => if k.val + 1 ≤ j.val then A j else 0) (Finset.mem_univ k)]
  rw [if_pos le_rfl, if_neg (Nat.not_succ_le_self _), zero_add, add_comm]
  congr 1
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]

/-- Making one transfer leaves the later ones to make. -/
theorem Os_succ (c : Dev nD) (k : Fin 7) : Os c k.val = Os c (k.val + 1) + tallyAt (recvCell (dst c k) (Fin.rev k)) true N :=
  sum_from_succ (fun k => tallyAt (recvCell (dst c k) (Fin.rev k)) true N) k
/-- Making one signal leaves the later ones to make. -/
theorem Ob_succ (c : Dev nD) (k : Fin 7) : Ob c k.val = Ob c (k.val + 1) + tallyAt (barCell (dst c k)) true 1 :=
  sum_from_succ (fun k => tallyAt (barCell (dst c k)) true 1) k
/-- After the last transfer nothing is owed. -/
theorem Os_end (c : Dev nD) : Os c 7 = 0 := Finset.sum_eq_zero fun k _ => if_neg (by have := k.2; omega)
/-- After the last signal nothing is owed. -/
theorem Ob_end (c : Dev nD) : Ob c 7 = 0 := Finset.sum_eq_zero fun k _ => if_neg (by have := k.2; omega)

/-- A sum of debts, at one semaphore. -/
theorem sum_apply (A : Fin 7 → CellTallies nD τ sig Bool) (g : GSem nD τ sig) (u : Bool) :
    (∑ k, A k) g u = ∑ k, A k g u := by
  rw [Finset.sum_apply, Finsupp.finset_sum_apply]

/-- A transfer still owed is one of the seven arrivals. -/
theorem Os_pos {c : Dev nD} {n : ℕ} {g : GSem nD τ sig} {u : Bool} (h : 0 < Os c n g u) :
    u = true ∧ ∃ k : Fin 7, g = recvCell (dst c k) (Fin.rev k) := by
  unfold Os at h
  rw [sum_apply] at h
  obtain ⟨k, -, hk⟩ := Finset.exists_ne_zero_of_sum_ne_zero (Nat.pos_iff_ne_zero.mp h)
  split at hk
  · rw [tallyAt_apply] at hk
    by_cases hg : g = recvCell (dst c k) (Fin.rev k) ∧ u = true
    · exact ⟨hg.2, k, hg.1⟩
    · rw [if_neg hg] at hk; exact absurd rfl hk
  · exact absurd rfl hk
/-- A signal still owed is one of the seven barriers. -/
theorem Ob_pos {c : Dev nD} {n : ℕ} {g : GSem nD τ sig} {u : Bool} (h : 0 < Ob c n g u) :
    u = true ∧ ∃ k : Fin 7, g = barCell (dst c k) := by
  unfold Ob at h
  rw [sum_apply] at h
  obtain ⟨k, -, hk⟩ := Finset.exists_ne_zero_of_sum_ne_zero (Nat.pos_iff_ne_zero.mp h)
  split at hk
  · rw [tallyAt_apply] at hk
    by_cases hg : g = barCell (dst c k) ∧ u = true
    · exact ⟨hg.2, k, hg.1⟩
    · rw [if_neg hg] at hk; exact absurd rfl hk
  · exact absurd rfl hk

/-! ## The levels

A device's own transfers at 0, the barrier at 1, the arrivals at 2. -/

/-- The names that have a level at a semaphore. -/
def L (g : GSem nD τ sig) : Finset Bool := if g.1.2 = .tc then Finset.univ else ∅
/-- The levels: barriers below arrivals. -/
def lv (g : GSem nD τ sig) (u : Bool) : ℕ := if u = false then 0 else if g.2 = .reg barS then 1 else 2

/-- Other threads' semaphores have none. -/
theorem L_of_ne (g : GSem nD τ sig) (h : g.1.2 ≠ .tc) : L g = ∅ := if_neg h
/-- Every name has a level at a device's own semaphores. -/
theorem mem_L (c : Dev nD) (sm : SemLoc sig) (u : Bool) : u ∈ L ((c : Thread nD τ), sm) := by
  unfold L; rw [if_pos rfl]; exact Finset.mem_univ _

omit [FloatOps F] in
/-- A device may wait for its own transfers whatever it owes of the exchange. -/
theorem mayWait_own (c : Dev nD) (a b : ℕ) (sm : SemLoc sig) :
    (levAts L lv : sProp 𝕄) ⊢ MayWait (c : Thread nD τ) sm false (Os c a + Ob c b) := by
  have hpos : ∀ g u, 0 < (Os c a + Ob c b) g u → u = true ∧ ((∃ d k, g = recvCell d k) ∨ ∃ d, g = barCell d) := fun g u h => by
    rw [Pi.add_apply, Finsupp.add_apply] at h
    rcases Nat.eq_zero_or_pos (Os c a g u) with h0 | h0
    · rw [h0, Nat.zero_add] at h
      obtain ⟨hu, k, hk⟩ := Ob_pos h
      exact ⟨hu, .inr ⟨_, hk⟩⟩
    · obtain ⟨hu, k, hk⟩ := Os_pos h0
      exact ⟨hu, .inl ⟨_, _, hk⟩⟩
  refine MayOwe.of_cut (L := L) (lev := lv) 0 (fun p hp => by rw [Finset.mem_singleton.mp hp]; exact mem_L _ _ _)
    (fun g u hg => ?_) (fun p hp => by rw [Finset.mem_singleton.mp hp]; exact le_of_eq (if_pos rfl)) (fun g u hg => ?_)
  · obtain ⟨-, ⟨d, k, rfl⟩ | ⟨d, rfl⟩⟩ := hpos g u hg <;> exact mem_L _ _ _
  · obtain ⟨rfl, ⟨d, k, rfl⟩ | ⟨d, rfl⟩⟩ := hpos g u hg
    · dsimp only [lv]; rw [if_neg (by decide), if_neg (dma_ne_bar _)]; decide
    · dsimp only [lv]; rw [if_neg (by decide), if_pos rfl]; decide

omit [FloatOps F] in
/-- At its barrier wait a device owes arrivals only. -/
theorem mayWait_bar (c : Dev nD) : (levAts L lv : sProp 𝕄) ⊢ MayWait (c : Thread nD τ) (.reg barS) true (Os c 0) := by
  refine MayOwe.of_cut (L := L) (lev := lv) 1 (fun p hp => by rw [Finset.mem_singleton.mp hp]; exact mem_L _ _ _)
    (fun g u hg => ?_) (fun p hp => by rw [Finset.mem_singleton.mp hp]; dsimp only [lv]; rw [if_neg (by decide), if_pos rfl]) (fun g u hg => ?_)
  · obtain ⟨-, k, rfl⟩ := Os_pos hg; exact mem_L _ _ _
  · obtain ⟨rfl, k, rfl⟩ := Os_pos hg
    dsimp only [lv]; rw [if_neg (by decide), if_neg (dma_ne_bar _)]; decide

/-! ## The records every device shares -/

/-- The exchange's semaphores of a device: the barrier, the seven departures, the seven arrivals. -/
abbrev CI : Type := Unit ⊕ (Fin 7 ⊕ Fin 7)
/-- The semaphores of the exchange, by their names. -/
def csem : CI → SemLoc sig
  | .inl _ => .reg barS
  | .inr (.inl k) => .dma (sendS k)
  | .inr (.inr k) => .dma (recvS k)
/-- The semaphore a name means on a device. -/
abbrev kcell (ck : Dev nD × CI) : GSem nD τ sig := ((ck.1 : Thread nD τ), csem ck.2)

/-- Every cell's invariant, under the name it was given at launch, and that its round has been reached. -/
def records (K : Dev nD × CI → ℕ) : sProp 𝕄 :=
  iprop((bigSep Finset.univ fun ck : Dev nD × CI => cellInv ER (sched PB) (K ck) (kcell ck))
    ∗ bigSep Finset.univ fun ck : Dev nD × CI => reached ER (kcell ck) 0)

omit [FloatOps F] in
/-- The records can be used again and again. -/
instance records_persistent (K : Dev nD × CI → ℕ) : BI.Persistent (records PB K) := by unfold records; infer_instance

omit [FloatOps F] in
/-- One semaphore's record. -/
theorem records_inv (K : Dev nD × CI → ℕ) (ck : Dev nD × CI) : records PB K ⊢ cellInv ER (sched PB) (K ck) (kcell ck) := by
  unfold records
  exact (sep_elim_left).trans (bigSep_elim (Φ := fun ck : Dev nD × CI => (cellInv ER (sched PB) (K ck) (kcell ck) : sProp 𝕄)) (Finset.mem_univ ck))
omit [FloatOps F] in
/-- Every semaphore starts in the first round. -/
theorem records_reached (K : Dev nD × CI → ℕ) (ck : Dev nD × CI) : records PB K ⊢ reached ER (kcell ck) 0 := by
  unfold records
  exact (sep_elim_right).trans (bigSep_elim (Φ := fun ck : Dev nD × CI => (reached ER (kcell ck) 0 : sProp 𝕄)) (Finset.mem_univ ck))

/-! ## The five remote steps -/

section Steps
variable (K : Dev nD × CI → ℕ) (c : Dev nD) (k : Fin 7)

/-- The signal to `dst c k`: device `c` hands over slot `k` of its landing buffer. -/
theorem signal_step {α : Type} {Q : α → sProp 𝕄} {kt : PUnit → Prog (TpuEff nD τ sig (Elt F) Λ₀ .tc) α}
    (n : Dev nD) (hn : n = dst c k) (k' : ℕ) (hk' : k' = 1) (D : CellTallies nD τ sig Bool) (W : Waits sig Bool)
    (f : (cc0_scratch5 : Ref sig .tc).ty.Contents (Elt F)) :
    iprop(records PB K ∗ owes (c : Thread nD τ) (D + Ob c k.val) W ∗ dutyTok ER (barCell (dst c k)) 0 (Fin.rev k) ∗ rPts c k f)
      ⊢ iprop((owes (c : Thread nD τ) (D + Ob c (k.val + 1)) W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS k') kt) Q) := by
  subst hn
  iintro ⟨#HR, HO, Ht, Hs⟩ Hk
  iapply (Rounds.wp_signal 𝒱₀ ER (sched PB) (c : Thread nD τ) none (dst := (dst c k : Thread nD τ)) (κ := K (dst c k, .inl ()))
      (d := Fin.rev k) (by rw [duties_bar]; exact Finset.mem_univ _) ((amount_bar PB (dst c k) (Fin.rev k)).trans hk'.symm) true
      (O₀ := D + Ob c k.val) (D + Ob c (k.val + 1)) (by rw [Ob_succ, hk', add_assoc])) $$ [HO Ht Hs]
  · isplitr; · iapply (records_inv PB K (dst c k, .inl ())); iexact HR
    isplitl [HO]; · iexact HO
    isplitl [Ht]; · iexact Ht
    isplitl [Hs]
    · rw [payload_bar]; unfold barPay; rw [dst_dst_rev, Fin.rev_rev]
      iexists f; iexact Hs
    iapply (records_reached PB K (dst c k, .inl ())); iexact HR
  iexact Hk

/-- The barrier wait: device `c` gets the seven slots it is to fill. -/
theorem barrier_step {α : Type} {Q : α → sProp 𝕄} {kt : PUnit → Prog (TpuEff nD τ sig (Elt F) Λ₀ .tc) α}
    (k' : ℕ) (hk' : k' = 7) (W : Waits sig Bool) :
    iprop(records PB K ∗ levAts L lv ∗ cred (tallyAt (barCell c) true 7) ∗ owes (c : Thread nD τ) (Os c 0) W ∗ atPos ER (barCell c) 0 ∅ 0)
      ⊢ iprop(((owes (c : Thread nD τ) (Os c 0) (insert (SemLoc.reg barS, true) W) ∗ semVal (barCell c) 0 ∗ bigSep Finset.univ fun j : Fin 7 => barPay (F := F) c j)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS k') kt) Q) := by
  subst hk'
  iintro ⟨#HR, #HL, Hc, HO, Hat⟩ Hk
  ihave #HI := (records_inv PB K (c, .inl ())) $$ HR
  iapply (Rounds.wp_wait_rest_token 𝒱₀ ER (sched PB) (c : Thread nD τ) none (κ := K (c, .inl ()))
      (wpE_semWait_eq 𝒱₀ (c : Thread nD τ) none Set.univ) (Set.mem_univ _) true (O := Os c 0) (W := W) (R := 0) (m := 0) (T := ∅)
      (by rw [expect_bar])) $$ [Hc HO Hat]
  · isplitr; · iexact HI
    isplitl [Hc]; · iexact Hc
    isplitl [HO]; · iexact HO
    isplitr; · iapply (mayWait_bar (F := F) c); iexact HL
    iexact Hat
  iintro ⟨HO, Hat, -, Hpay⟩
  imod (Rounds.cell_close ER (sched PB) (Set.mem_univ (K (c, .inl ()))) (fun h => h) (R := 0 + 1) (duties_later PB (barCell c))) $$ [Hat] with Hz
  · isplitr; · iexact HI
    iexact Hat
  iapply Hk
  isplitl [HO]; · iexact HO
  isplitl [Hz]; · iexact Hz
  ihave Hp := (Entails.of_eq (rest_bar PB c)) $$ Hpay
  iexact Hp

/-- Transfer `k`: slot `k` of the send buffer, holding what it should, sent to `dst c k`. -/
theorem send_step {α : Type} {Q : α → sProp 𝕄} {kt : PUnit → Prog (TpuEff nD τ sig (Elt F) Λ₀ .tc) α}
    (n : Dev nD) (hn : n = dst c k) (qs qr : DmaSem sig) (hqs : qs = sendS k) (hqr : qr = recvS (Fin.rev k))
    {hsc : (rSlot (Fin.rev k)).view.ref.isScScratch = false}
    {hsrc : (pSlot k).view.WordExact} {hdst : (rSlot (Fin.rev k)).view.WordExact}
    {hsem : DmaTarget.Typed .vmem (.dma qr) (.remote (Dev.tc n : Thread nD τ) (rSlot (Fin.rev k)) (.dma qs) hsc)}
    (W : Waits sig Bool) :
    iprop(records PB K ∗ pPts c k (PB c) ∗ barPay (F := F) c k ∗ owes (c : Thread nD τ) (Os c k.val) W
        ∗ dutyTok ER (sendCell c k) 0 0 ∗ dutyTok ER (recvCell (dst c k) (Fin.rev k)) 0 0)
      ⊢ iprop(((cred (tallyAt (sendCell c k) true N) ∗ owes (c : Thread nD τ) (Os c (k.val + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (pSlot k) (.remote (Dev.tc n : Thread nD τ) (rSlot (Fin.rev k)) (.dma qs) hsc) (.dma qr) hsrc hdst hsem) kt) Q) := by
  subst hn hqs hqr
  unfold barPay
  iintro ⟨#HR, Hp, ⟨%fd, Hr⟩, HO, Hts, Htr⟩ Hk
  unfold pPts rPts
  iapply (Rounds.wp_send_pointsTo 𝒱₀ ER (sched PB) (c : Thread nD τ) none (κ₁ := K (c, .inr (.inl k))) (κ₂ := K (dst c k, .inr (.inr (Fin.rev k))))
    (c' := (Dev.tc (dst c k) : Thread nD τ))
    (r₁ := 0) (r₂ := 0) (d₁ := 0) (d₂ := 0) (fd := fd) (fs := PB c)
    (by rw [duties_send]; exact Finset.mem_singleton_self _) (by rw [duties_recv]; exact Finset.mem_singleton_self _)
    true true N (amount_rSlot (Fin.rev k) (recvS (Fin.rev k))) (amount_dma PB c (sendS k) 0) (amount_dma PB (dst c k) (recvS (Fin.rev k)) 0) (O₀ := Os c k.val) (Os c (k.val + 1)) (Os_succ c k) (W := W)
    (by rw [payload_send]; exact BI.Entails.refl _)
    (by rw [payload_recv]; exact Entails.of_eq (pointsTo_congr (landed_eq PB c k fd)))) $$ [Hp Hr HO Hts Htr]
  · isplitr; · iapply (records_inv PB K (c, .inr (.inl k))); iexact HR
    isplitr; · iapply (records_inv PB K (dst c k, .inr (.inr (Fin.rev k)))); iexact HR
    isplitl [Hp]; · iexact Hp
    isplitl [Hr]; · iexact Hr
    isplitl [HO]; · iexact HO
    isplitl [Hts]; · iexact Hts
    isplitr; · iapply (records_reached PB K (c, .inr (.inl k))); iexact HR
    isplitl [Htr]; · iexact Htr
    iapply (records_reached PB K (dst c k, .inr (.inr (Fin.rev k)))); iexact HR
  iexact Hk

/-- The wait for the arrival in slot `k`: the slot, holding what was sent. -/
theorem arrive_step {α : Type} {Q : α → sProp 𝕄} {kt : PUnit → Prog (TpuEff nD τ sig (Elt F) Λ₀ .tc) α}
    (q : DmaSem sig) (hq : q = recvS k) {sp : Space} {src : Memref sig .tc sp S256x1024 .bf16}
    {hsrc : src.view.WordExact} {hdst : (rSlot k).view.WordExact} (W : Waits sig Bool) :
    iprop(records PB K ∗ cred (tallyAt (recvCell c k) true N) ∗ owes (c : Thread nD τ) 0 W ∗ atPos ER (recvCell c k) 0 ∅ 0)
      ⊢ iprop(((owes (c : Thread nD τ) 0 (insert (SemLoc.dma (recvS k), true) W) ∗ semVal (recvCell c k) 0 ∗ rPts c k (landed PB c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src (rSlot k) hsrc hdst) kt) Q) := by
  subst hq
  iintro ⟨#HR, Hc, HO, Hat⟩ Hk
  ihave #HI := (records_inv PB K (c, .inr (.inr k))) $$ HR
  iapply (Rounds.wp_wait_rest_token 𝒱₀ ER (sched PB) (c : Thread nD τ) none (κ := K (c, .inr (.inr k)))
      (wpE_waitDma2_eq 𝒱₀ (c : Thread nD τ) none Set.univ) (Set.mem_univ _) true (O := 0) (W := W) (R := 0) (m := 0) (T := ∅)
      (by rw [Nat.zero_add]; exact (expect_recv PB c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched PB) (Set.mem_univ (K (c, .inr (.inr k)))) (fun h => h) (R := 0 + 1) (duties_later PB (recvCell c k))) $$ [Hat] with Hz
  · isplitr; · iexact HI
    iexact Hat
  iapply Hk
  isplitl [HO]; · iexact HO
  isplitl [Hz]; · iexact Hz
  ihave Hp := (Entails.of_eq (rest_recv PB c k)) $$ Hpay
  iexact Hp

/-- The wait for departure `k`: the sent slot is the device's again. -/
theorem depart_step {α : Type} {Q : α → sProp 𝕄} {kt : PUnit → Prog (TpuEff nD τ sig (Elt F) Λ₀ .tc) α}
    (q : DmaSem sig) (hq : q = sendS k) {sp : Space} {src : Memref sig .tc sp S256x1024 .bf16}
    {hsrc : src.view.WordExact} {hdst : (pSlot k).view.WordExact} (W : Waits sig Bool) :
    iprop(records PB K ∗ cred (tallyAt (sendCell c k) true N) ∗ owes (c : Thread nD τ) 0 W ∗ atPos ER (sendCell c k) 0 ∅ 0)
      ⊢ iprop(((owes (c : Thread nD τ) 0 (insert (SemLoc.dma (sendS k), true) W) ∗ semVal (sendCell c k) 0 ∗ pPts c k (PB c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src (pSlot k) hsrc hdst) kt) Q) := by
  subst hq
  iintro ⟨#HR, Hc, HO, Hat⟩ Hk
  ihave #HI := (records_inv PB K (c, .inr (.inl k))) $$ HR
  iapply (Rounds.wp_wait_rest_token 𝒱₀ ER (sched PB) (c : Thread nD τ) none (κ := K (c, .inr (.inl k)))
      (wpE_waitDma2_eq 𝒱₀ (c : Thread nD τ) none Set.univ) (Set.mem_univ _) true (O := 0) (W := W) (R := 0) (m := 0) (T := ∅)
      (by rw [Nat.zero_add]; exact (expect_send PB c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched PB) (Set.mem_univ (K (c, .inr (.inl k)))) (fun h => h) (R := 0 + 1) (duties_later PB (sendCell c k))) $$ [Hat] with Hz
  · isplitr; · iexact HI
    iexact Hat
  iapply Hk
  isplitl [HO]; · iexact HO
  isplitl [Hz]; · iexact Hz
  ihave Hp := (Entails.of_eq (rest_send PB c k)) $$ Hpay
  iexact Hp

end Steps

end Cert.MoE

end
-- ==== Proof.Vals.lean ====
module
public import proofs.«01_k».proof.Proof.Proto
public import Idealize.ShloMosaic.Lib.WritesUnit
public import Idealize.ShloMosaic.Lib.ValueLayout
public import Idealize.ShloMosaic.Lib.VecWindow
/-! What the buffers of one device hold, in closed form, and what the loads and stores of the run read and leave. -/
@[expose] public section
noncomputable section
namespace Cert.MoE
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)
variable {F : FTy → Type} [FloatOps F]
local notation "𝕄" => MT nD τ sig Bool (Elt F) ℕ UU ℕ

/-! ## The values -/

/-- A row of the token block of device `d`, counted in the whole batch. -/
def rowAt (d : Dev nD) (r : Fin 256) : Fin 2048 := ⟨256 * d.val + r.val, by have := d.2; have : d.val < 8 := d.2; omega⟩

/-- The rows of the tokens of device `d`. -/
def xRows (X : Vec F S2048x1024 .bf16) (d : Dev nD) : Vec F S256x1024 .bf16 := fun y => X (ix2 (rowAt d (y 0)) (y 1))
/-- The gates of one local expert on the tokens of device `d`. -/
def gCol (G : Vec F S2048x8 .f32) (d : Dev nD) (j : Fin 8) : Vec F S256x1 .f32 := fun y => G (ix2 (rowAt d (y 0)) j)
/-- The matrix of one local expert. -/
def slab {e : EltTy} (W : Vec F S8x1024x1024 e) (j : Fin 8) : Vec F S1x1024x1024 e := fun y => W (ix3 j (y 1) (y 2))

/-- The gated sum over eight experts, from the eight matrices and gate columns. -/
def gated (x : Vec F S256x1024 .bf16) (w0 w1 w2 w3 w4 w5 w6 w7 : Vec F S1x1024x1024 .bf16) (g0 g1 g2 g3 g4 g5 g6 g7 : Vec F S256x1 .f32) :
    FVec F S256x1024 .f32 :=
  k0_pay16 (k0_pay16 (k0_pay16 (k0_pay16 (k0_pay16 (k0_pay16 (k0_pay16 (k0_pay16 k0_pay14 x w0 g0) x w1 g1) x w2 g2) x w3 g3) x w4 g4) x w5 g5) x w6 g6) x w7 g7

/-- What the local experts add to the outputs of the tokens of device `d`. -/
def chunk (X : Vec F S2048x1024 .bf16) (Wb : Vec F S8x1024x1024 .bf16) (G : Vec F S2048x8 .f32) (d : Dev nD) : FVec F S256x1024 .f32 :=
  gated (xRows X d) (slab Wb 0) (slab Wb 1) (slab Wb 2) (slab Wb 3) (slab Wb 4) (slab Wb 5) (slab Wb 6) (slab Wb 7)
    (gCol G d 0) (gCol G d 1) (gCol G d 2) (gCol G d 3) (gCol G d 4) (gCol G d 5) (gCol G d 6) (gCol G d 7)

/-- The tokens in the narrow format. -/
def xbV (x : Vec F S2048x1024 .f32) : Vec F S2048x1024 .bf16 := k0_pay1 x
/-- The experts in the narrow format. -/
def wbV (w : Vec F S8x1024x1024 .f32) : Vec F S8x1024x1024 .bf16 := truncf .bf16 w bitsLt_bf16_f32
/-- One column of the routing table. -/
def idxCol (r : Vec F S2048x2 .i32) (k : Fin 2) : Vec F S2048x1 .i32 := fun y => r (ix2 (y 0) k)
/-- The device's number, as the kernel computes it. -/
def place (c : Dev nD) : BitVec 32 := Scalar.remsi (Scalar.divsi c.word 1#32) 8#32
/-- The gates of the eight local experts on every token. -/
def gateV (c : Dev nD) (x : Vec F S2048x1024 .f32) (rw : Vec F S1024x64 .f32) (r : Vec F S2048x2 .i32) : Vec F S2048x8 .f32 :=
  k0_pay13 (k0_pay10 (place c) (k0_pay2 x) rw (idxCol r 0) (idxCol r 1)) (k0_pay11 (place c) (idxCol r 1))
    (k0_pay12 (k0_pay2 x) rw (idxCol r 0) (idxCol r 1)) (Scalar.ofBits .f32 0x00000000#32)

/-- The send buffer: slot `k` holds the partial outputs for the device `k + 1` places further. -/
def partV (X : Vec F S2048x1024 .bf16) (Wb : Vec F S8x1024x1024 .bf16) (G : Vec F S2048x8 .f32) (c : Dev nD) : (cc0_scratch4 : Ref sig .tc).ty.Contents (Elt F) :=
  fun i => (truncf .bf16 (chunk X Wb G (dst c (i 0))) bitsLt_bf16_f32 : FVec F S256x1024 .bf16) (ix2 (i 1) (i 2))

/-- One slot of the landing buffer. -/
def slotV (R : (cc0_scratch5 : Ref sig .tc).ty.Contents (Elt F)) (k : Fin 7) : Vec F S1x256x1024 .bf16 := fun y => R (ix3 k (y 1) (y 2))

/-- The device's outputs: its own partial sum and the seven that arrived. -/
def outV (own : FVec F S256x1024 .f32) (R : (cc0_scratch5 : Ref sig .tc).ty.Contents (Elt F)) : FVec F S256x1024 .f32 :=
  k0_pay58 (k0_pay57 (k0_pay56 own (slotV R 6) (slotV R 5) (slotV R 4)) (slotV R 3) (slotV R 2)) (slotV R 1) (slotV R 0)

/-! ## Loads -/

section Reads
omit [FloatOps F]

/-- Reading a chunk's tokens. -/
theorem read_rows (X : (cc0_scratch0 : Ref sig .tc).ty.Contents (Elt F)) (d : Dev nD) {o : Fin 2 → ℕ} (inb : ∀ a, o a + S256x1024.size a ≤ S2048x1024.size a)
    (ho : o = ![256 * d.val, 0]) :
    (Memref.whole cc0_scratch0).view.readAt (Elt F) (Rect.unit (s := S2048x1024) o S256x1024.size inb).toLoadRect X = xRows (F := F) X d := by
  subst ho
  funext y
  refine congrArg X (funext fun a => ?_)
  fin_cases a
  · exact Fin.ext (show 256 * d.val + 1 * (y 0).val = 256 * d.val + (y 0).val by omega)
  · exact Fin.ext (show 0 + 1 * (y 1).val = (y 1).val by omega)

/-- Reading one expert's gates for a chunk. -/
theorem read_gate (G : (cc0_scratch1 : Ref sig .tc).ty.Contents (Elt F)) (d : Dev nD) (j : Fin 8) {o : Fin 2 → ℕ} (inb : ∀ a, o a + S256x1.size a ≤ S2048x8.size a)
    (ho : o = ![256 * d.val, j.val]) :
    (Memref.whole cc0_scratch1).view.readAt (Elt F) (Rect.unit (s := S2048x8) o S256x1.size inb).toLoadRect G = gCol (F := F) G d j := by
  subst ho
  funext y
  have h1 : (y 1).val < 1 := (y 1).isLt
  refine congrArg G (funext fun a => ?_)
  fin_cases a
  · exact Fin.ext (show 256 * d.val + 1 * (y 0).val = 256 * d.val + (y 0).val by omega)
  · exact Fin.ext (show j.val + 1 * (y 1).val = j.val by omega)

/-- Reading one expert's matrix. -/
theorem read_slab (W : (cc0_scratch2 : Ref sig .tc).ty.Contents (Elt F)) (j : Fin 8) {o : Fin 3 → ℕ} (inb : ∀ a, o a + S1x1024x1024.size a ≤ S8x1024x1024.size a)
    (ho : o = ![j.val, 0, 0]) :
    (Memref.whole cc0_scratch2).view.readAt (Elt F) (Rect.unit (s := S8x1024x1024) o S1x1024x1024.size inb).toLoadRect W = slab (F := F) W j := by
  subst ho
  funext y
  have h1 : (y 0).val < 1 := (y 0).isLt
  refine congrArg W (funext fun a => ?_)
  fin_cases a
  · exact Fin.ext (show j.val + 1 * (y 0).val = j.val by omega)
  · exact Fin.ext (show 0 + 1 * (y 1).val = (y 1).val by omega)
  · exact Fin.ext (show 0 + 1 * (y 2).val = (y 2).val by omega)

/-- Reading one landing slot. -/
theorem read_slot (R : (cc0_scratch5 : Ref sig .tc).ty.Contents (Elt F)) (k : Fin 7) {o : Fin 3 → ℕ} (inb : ∀ a, o a + S1x256x1024.size a ≤ S7x256x1024.size a)
    (ho : o = ![k.val, 0, 0]) :
    (Memref.whole cc0_scratch5).view.readAt (Elt F) (Rect.unit (s := S7x256x1024) o S1x256x1024.size inb).toLoadRect R = slotV (F := F) R k := by
  subst ho
  funext y
  have h1 : (y 0).val < 1 := (y 0).isLt
  refine congrArg R (funext fun a => ?_)
  fin_cases a
  · exact Fin.ext (show k.val + 1 * (y 0).val = k.val by omega)
  · exact Fin.ext (show 0 + 1 * (y 1).val = (y 1).val by omega)
  · exact Fin.ext (show 0 + 1 * (y 2).val = (y 2).val by omega)

/-- Reading one column of the routing table. -/
theorem read_col (r : (cc0_stg2_0 : Ref sig .tc).ty.Contents (Elt F)) (k : Fin 2) {o : Fin 2 → ℕ} (inb : ∀ a, o a + S2048x1.size a ≤ S2048x2.size a)
    (ho : o = ![0, k.val]) :
    (Memref.whole cc0_stg2_0).view.readAt (Elt F) (Rect.unit (s := S2048x2) o S2048x1.size inb).toLoadRect r = idxCol (F := F) r k := by
  subst ho
  funext y
  have h1 : (y 1).val < 1 := (y 1).isLt
  refine congrArg r (funext fun a => ?_)
  fin_cases a
  · exact Fin.ext (show 0 + 1 * (y 0).val = (y 0).val by omega)
  · exact Fin.ext (show k.val + 1 * (y 1).val = k.val by omega)

/-! ## The staging buffer of the experts' matrices -/

/-- Slot `s` of the staging buffer. -/
abbrev stSlot (s : Fin 2) (inb : ∀ a, (![s.val, 0, 0] : Fin 3 → ℕ) a + S1x1024x1024.size a ≤ S2x1024x1024.size a) : Memref sig .tc .vmem S1024x1024 .f32 :=
  ((Memref.whole cc0_scratch3).slice (Rect.unit (s := S2x1024x1024) ![s.val, 0, 0] S1x1024x1024.size inb) (fun _ => rfl)).squeeze S1024x1024 squeezes_S1x1024x1024_S1024x1024
/-- Matrix `j` of the experts' array. -/
abbrev wSlab (j : Fin 8) (inb : ∀ a, (![j.val, 0, 0] : Fin 3 → ℕ) a + S1x1024x1024.size a ≤ S8x1024x1024.size a) : Memref sig .tc .hbm S1024x1024 .f32 :=
  ((Memref.whole main_arg3).slice (Rect.unit (s := S8x1024x1024) ![j.val, 0, 0] S1x1024x1024.size inb) (fun _ => rfl)).squeeze S1024x1024 squeezes_S1x1024x1024_S1024x1024

/-- A matrix index, with the unit axis put back. -/
theorem squeeze_idx (y : S1x1024x1024.Idx) :
    Shape.reshapeEquiv (s := S1x1024x1024) (s' := S1024x1024) (squeezes_S1x1024x1024_S1024x1024).numel_eq (ix2 (y 1) (y 2)) = y := by
  have h := ValueIdx.shapeCast_1ab_ab_apply (a := 1024) (b := 1024) (fun z : S1x1024x1024.Idx => z) shapeCasts_S1x1024x1024_S1024x1024 (y 1) (y 2)
  refine (show _ = _ from h).trans (funext fun a => ?_)
  have h1 : (y 0).val < 1 := (y 0).isLt
  fin_cases a
  · exact Fin.ext (show 0 = (y 0).val by omega)
  · rfl
  · rfl

/-- Where an index of a staging slot lies in the buffer. -/
theorem st_emb (s : Fin 2) (inb) (y : S1x1024x1024.Idx) :
    (stSlot s inb).view.emb (ix2 (y 1) (y 2) : S1024x1024.Idx) = (Rect.unit (s := S2x1024x1024) ![s.val, 0, 0] S1x1024x1024.size inb).emb y :=
  congrArg (Rect.unit (s := S2x1024x1024) ![s.val, 0, 0] S1x1024x1024.size inb).emb (squeeze_idx y)
/-- Where an index of an expert's matrix lies in the array. -/
theorem w_emb (j : Fin 8) (inb) (y : S1x1024x1024.Idx) :
    (wSlab j inb).view.emb (ix2 (y 1) (y 2) : S1024x1024.Idx) = (Rect.unit (s := S8x1024x1024) ![j.val, 0, 0] S1x1024x1024.size inb).emb y :=
  congrArg (Rect.unit (s := S8x1024x1024) ![j.val, 0, 0] S1x1024x1024.size inb).emb (squeeze_idx y)

/-- A staging slot read after its copy holds the expert's matrix. -/
theorem stage_hit (s : Fin 2) (j : Fin 8) (inb inb' inbj) (g : (cc0_scratch3 : Ref sig .tc).ty.Contents (Elt F)) (fw : (main_arg3 : Ref sig .tc).ty.Contents (Elt F)) :
    (Memref.whole cc0_scratch3).view.readAt (Elt F) (Rect.unit (s := S2x1024x1024) ![s.val, 0, 0] S1x1024x1024.size inb').toLoadRect
        ((stSlot s inb).view.write (Elt F) g (ReadAs.same.apply ((wSlab j inbj).view.read (Elt F) fw)) Finset.univ)
      = slab (F := F) fw j := by
  funext y
  have hw : (stSlot s inb).view.write (Elt F) g (ReadAs.same.apply ((wSlab j inbj).view.read (Elt F) fw)) Finset.univ ((stSlot s inb).view.emb (ix2 (y 1) (y 2)))
      = fw ((wSlab j inbj).view.emb (ix2 (y 1) (y 2))) := View.write_emb_of_mem _ _ (Finset.mem_univ _)
  rw [st_emb s inb y, w_emb j inbj y] at hw
  refine (show _ = _ from hw).trans ?_
  have h1 : (y 0).val < 1 := (y 0).isLt
  refine congrArg fw (funext fun a => ?_)
  fin_cases a
  · exact Fin.ext (show j.val + 1 * (y 0).val = j.val by omega)
  · exact Fin.ext (show 0 + 1 * (y 1).val = (y 1).val by omega)
  · exact Fin.ext (show 0 + 1 * (y 2).val = (y 2).val by omega)

/-- A copy into one staging slot leaves the other as it was. -/
theorem stage_skip (s t : Fin 2) (hst : s ≠ t) (inb inb') (g : (cc0_scratch3 : Ref sig .tc).ty.Contents (Elt F)) (p : S1024x1024.Idx → Elt F .f32) :
    (Memref.whole cc0_scratch3).view.readAt (Elt F) (Rect.unit (s := S2x1024x1024) ![s.val, 0, 0] S1x1024x1024.size inb').toLoadRect
        ((stSlot t inb).view.write (Elt F) g p Finset.univ)
      = (Memref.whole cc0_scratch3).view.readAt (Elt F) (Rect.unit (s := S2x1024x1024) ![s.val, 0, 0] S1x1024x1024.size inb').toLoadRect g := by
  funext y
  show (stSlot t inb).view.write (Elt F) g p Finset.univ ((Rect.unit (s := S2x1024x1024) ![s.val, 0, 0] S1x1024x1024.size inb').emb y) = g _
  refine View.write_of_not_mem (v := (stSlot t inb).view) g p Finset.univ fun hm => ?_
  obtain ⟨x, -, hx⟩ := Finset.mem_map.mp hm
  have h0 := congrArg (fun i : S2x1024x1024.Idx => (i 0).val) hx
  have h1 : (y 0).val < 1 := (y 0).isLt
  have h2 : ∀ z : S1x1024x1024.Idx, (z 0).val < 1 := fun z => (z 0).isLt
  have h3 : t.val + 1 * ((Shape.reshapeEquiv (s := S1x1024x1024) (s' := S1024x1024) (squeezes_S1x1024x1024_S1024x1024).numel_eq x) 0).val = s.val + 1 * (y 0).val := h0
  have h4 := h2 (Shape.reshapeEquiv (s := S1x1024x1024) (s' := S1024x1024) (squeezes_S1x1024x1024_S1024x1024).numel_eq x)
  exact hst (Fin.ext (by omega))

/-- A load of the window just stored. -/
theorem cov_hit {s : Shape} {e : EltTy} {sp : Space} (v : View sig .tc sp s e) [∀ e, Nonempty (Elt F e)] {off size : Fin s.rank → ℕ} (inb inb' : ∀ a, off a + size a ≤ s.size a)
    (w : (Rect.unit off size inb).shape.Idx → Elt F e) (L : List (View.Piece (Elt F) s e)) :
    v.readCov (Val := Elt F) (⟨Rect.unit off size inb, w⟩ :: L) (Rect.unit off size inb').toLoadRect = w := by
  funext y
  exact View.read_writes_cons_unit_of_mem v v.junk inb w L _ y rfl fun a => by
    show off a + 1 * (y a).val = _; rw [Nat.one_mul]

end Reads

/-- The cast of one matrix to the narrow format, as the kernel writes it. -/
theorem pay_slab (fw : Vec F S8x1024x1024 .f32) (j : Fin 8) : k0_pay15 (slab (F := F) fw j) = slab (F := F) (wbV fw) j := by
  have key : ∀ (u : Fin 1) (a b : Fin 1024), k0_pay15 (slab (F := F) fw j) (ix3 u a b) = slab (F := F) (wbV fw) j (ix3 u a b) := fun u a b =>
    (ValueIdx.shapeCast_ab_1ab_apply (a := 1024) (b := 1024)
        (truncf .bf16 (shapeCast S1024x1024 (slab (F := F) fw j) shapeCasts_S1x1024x1024_S1024x1024 : FVec F S1024x1024 .f32) bitsLt_bf16_f32 : FVec F S1024x1024 .bf16)
        shapeCasts_S1024x1024_S1x1024x1024 u a b).trans
      (congrArg (fun v : F .f32 => FloatOps.truncf .bf16 bitsLt_bf16_f32 v)
        (ValueIdx.shapeCast_1ab_ab_apply (a := 1024) (b := 1024) (slab (F := F) fw j) shapeCasts_S1x1024x1024_S1024x1024 a b))
  funext y
  have hy : y = ix3 (y 0 : Fin 1) (y 1 : Fin 1024) (y 2 : Fin 1024) := eq_ix3 y
  rw [hy]
  exact key _ _ _

/-- One slot of the send buffer, as the kernel stores it. -/
theorem pay_slot (a : FVec F S256x1024 .f32) (y : S1x256x1024.Idx) :
    shapeCast S1x256x1024 (truncf .bf16 a bitsLt_bf16_f32 : FVec F S256x1024 .bf16) shapeCasts_S256x1024_S1x256x1024 y
      = (truncf .bf16 a bitsLt_bf16_f32 : FVec F S256x1024 .bf16) (ix2 (y 1) (y 2)) := by
  have key : ∀ (u : Fin 1) (p : Fin 256) (q : Fin 1024),
      shapeCast S1x256x1024 (truncf .bf16 a bitsLt_bf16_f32 : FVec F S256x1024 .bf16) shapeCasts_S256x1024_S1x256x1024 (ix3 u p q)
        = (truncf .bf16 a bitsLt_bf16_f32 : FVec F S256x1024 .bf16) (ix2 p q) := fun u p q =>
    ValueIdx.shapeCast_ab_1ab_apply (a := 256) (b := 1024) _ shapeCasts_S256x1024_S1x256x1024 u p q
  have hy : y = ix3 (y 0 : Fin 1) (y 1 : Fin 256) (y 2 : Fin 1024) := eq_ix3 y
  refine (congrArg _ hy).trans (key _ _ _)

/-- The send buffer's slot `k`, at the place `y` of the slot. -/
theorem partV_at (X : Vec F S2048x1024 .bf16) (Wb : Vec F S8x1024x1024 .bf16) (G : Vec F S2048x8 .f32) (c : Dev nD) (k : Fin 7) (y : S1x256x1024.Idx) :
    shapeCast S1x256x1024 (truncf .bf16 (chunk X Wb G (dst c k)) bitsLt_bf16_f32 : FVec F S256x1024 .bf16) shapeCasts_S256x1024_S1x256x1024 y
      = partV X Wb G c (ix3 k (y 1) (y 2)) := pay_slot _ y

/-- Where an index of a send slot lies in the buffer. -/
theorem pSlot_emb (k : Fin 7) (inb) (y : S1x256x1024.Idx) :
    (Rect.unit (s := S7x256x1024) ![k.val, 0, 0] S1x256x1024.size inb).emb y = ix3 k (y 1) (y 2) := by
  have h1 : (y 0).val < 1 := (y 0).isLt
  funext a
  fin_cases a
  · exact Fin.ext (show k.val + 1 * (y 0).val = k.val by omega)
  · exact Fin.ext (show 0 + 1 * (y 1).val = (y 1).val by omega)
  · exact Fin.ext (show 0 + 1 * (y 2).val = (y 2).val by omega)

omit [FloatOps F] in
/-- What a store of one slot leaves there. -/
theorem slot_written (k : Fin 7) (inb) (f g : (cc0_scratch4 : Ref sig .tc).ty.Contents (Elt F))
    (w : (Rect.unit (s := S7x256x1024) ![k.val, 0, 0] S1x256x1024.size inb).shape.Idx → Elt F .bf16)
    (hw : ∀ y, w y = g (ix3 k (y 1) (y 2))) (i : S7x256x1024.Idx) (hi : i ∈ slotSet k) :
    ((Memref.whole cc0_scratch4).access (Rect.unit (s := S7x256x1024) ![k.val, 0, 0] S1x256x1024.size inb)).write (Elt F) f w Finset.univ i = g i := by
  unfold slotSet at hi
  rw [← Rect.map_emb_univ] at hi
  obtain ⟨y, -, rfl⟩ := Finset.mem_map.mp hi
  have h := View.write_emb_of_mem (Val := Elt F) (v := (Memref.whole cc0_scratch4).access (Rect.unit (s := S7x256x1024) ![k.val, 0, 0] S1x256x1024.size inb)) f w
    (Finset.mem_univ y)
  refine (show _ = _ from h).trans ((hw y).trans (congrArg g (pSlot_emb k inb y).symm))

end Cert.MoE
-- ==== Proof.Steps.lean ====
module
public import proofs.«01_k».proof.Proof.Vals
/-! The steps of one device's run that touch memory: what the first half leaves, a chunk from its loads, and the fill of one slot. -/
@[expose] public section
noncomputable section
namespace Cert.MoE
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
variable {F : FTy → Type} [FloatOps F]
local notation "𝕄" => MT nD τ sig Bool (Elt F) ℕ UU ℕ

/-- The origin. -/
theorem zero2 : (![0, 0] : Fin 2 → ℕ) = fun _ => 0 := funext fun a => by fin_cases a <;> rfl

omit [FloatOps F] in
/-- A whole buffer after a store of all of it. -/
theorem whole_full (b : Ref sig .tc) (f : b.ty.Contents (Elt F)) {off : Fin b.ty.shape.rank → ℕ} (inb : ∀ a, off a + b.ty.shape.size a ≤ b.ty.shape.size a)
    (w : (Rect.unit off b.ty.shape.size inb).shape.Idx → Elt F b.ty.elt) (L) :
    (Memref.whole b).view.writes (Elt F) f (⟨Rect.unit off b.ty.shape.size inb, w⟩ :: L) = w :=
  View.read_writes_full (Memref.whole b).view f inb w L
omit [FloatOps F] in
/-- A whole buffer after a store of a window, inside the window. -/
theorem whole_hit (b : Ref sig .tc) (f : b.ty.Contents (Elt F)) {off size : Fin b.ty.shape.rank → ℕ} (inb : ∀ a, off a + size a ≤ b.ty.shape.size a)
    (w : (Rect.unit off size inb).shape.Idx → Elt F b.ty.elt) (L) (y : b.ty.shape.Idx) (x : (Rect.unit off size inb).shape.Idx) (hx : ∀ a, (y a).val = off a + (x a).val) :
    (Memref.whole b).view.writes (Elt F) f (⟨Rect.unit off size inb, w⟩ :: L) y = w x :=
  View.read_writes_cons_unit_of_mem (Memref.whole b).view f inb w L y x rfl hx
omit [FloatOps F] in
/-- A whole buffer after a store of a window, outside the window. -/
theorem whole_miss (b : Ref sig .tc) (f : b.ty.Contents (Elt F)) {off size : Fin b.ty.shape.rank → ℕ} (inb : ∀ a, off a + size a ≤ b.ty.shape.size a)
    (w : (Rect.unit off size inb).shape.Idx → Elt F b.ty.elt) (L) (y : b.ty.shape.Idx) (a : Fin b.ty.shape.rank) (ha : (y a).val < off a ∨ off a + size a ≤ (y a).val) :
    (Memref.whole b).view.writes (Elt F) f (⟨Rect.unit off size inb, w⟩ :: L) y = (Memref.whole b).view.writes (Elt F) f L y :=
  View.read_writes_cons_unit_of_not_mem (Memref.whole b).view f inb w L y rfl a ha

omit [FloatOps F] in
/-- Reading the whole of the tokens. -/
theorem read_x (fx : (cc0_stg0_0 : Ref sig .tc).ty.Contents (Elt F)) (inb) :
    (Memref.whole cc0_stg0_0).view.readAt (Elt F) (Rect.unit (s := S2048x1024) ![0, 0] S2048x1024.size inb).toLoadRect fx = fx :=
  Memref.readAt_unit_zero (Elt F) cc0_stg0_0 zero2 inb fx
omit [FloatOps F] in
/-- Reading the whole of the router. -/
theorem read_rw (fr : (cc0_stg1_0 : Ref sig .tc).ty.Contents (Elt F)) (inb) :
    (Memref.whole cc0_stg1_0).view.readAt (Elt F) (Rect.unit (s := S1024x64) ![0, 0] S1024x64.size inb).toLoadRect fr = fr :=
  Memref.readAt_unit_zero (Elt F) cc0_stg1_0 zero2 inb fr

/-- The narrow copy of the tokens, after its store. -/
theorem xb_stored (f : (cc0_scratch0 : Ref sig .tc).ty.Contents (Elt F)) (fx : (cc0_stg0_0 : Ref sig .tc).ty.Contents (Elt F)) (inb inb') :
    (Memref.whole cc0_scratch0).view.writes (Elt F) f
        [⟨Rect.unit (s := S2048x1024) ![0, 0] S2048x1024.size inb,
          k0_pay1 ((Memref.whole cc0_stg0_0).view.readAt (Elt F) (Rect.unit (s := S2048x1024) ![0, 0] S2048x1024.size inb').toLoadRect fx)⟩]
      = xbV (F := F) fx := by
  refine (whole_full cc0_scratch0 f inb _ []).trans ?_
  rw [read_x]
  rfl

/-- The gates, after their store. -/
theorem gate_stored (f : (cc0_scratch1 : Ref sig .tc).ty.Contents (Elt F)) (c : Dev nD) (fx : (cc0_stg0_0 : Ref sig .tc).ty.Contents (Elt F))
    (frw : (cc0_stg1_0 : Ref sig .tc).ty.Contents (Elt F)) (fi : (cc0_stg2_0 : Ref sig .tc).ty.Contents (Elt F)) (inb inbx inbr inb0 inb1) :
    (Memref.whole cc0_scratch1).view.writes (Elt F) f
        [⟨Rect.unit (s := S2048x8) ![0, 0] S2048x8.size inb,
          k0_pay13
            (k0_pay10 (place c) (k0_pay2 ((Memref.whole cc0_stg0_0).view.readAt (Elt F) (Rect.unit (s := S2048x1024) ![0, 0] S2048x1024.size inbx).toLoadRect fx))
              ((Memref.whole cc0_stg1_0).view.readAt (Elt F) (Rect.unit (s := S1024x64) ![0, 0] S1024x64.size inbr).toLoadRect frw)
              ((Memref.whole cc0_stg2_0).view.readAt (Elt F) (Rect.unit (s := S2048x2) ![0, 0] S2048x1.size inb0).toLoadRect fi)
              ((Memref.whole cc0_stg2_0).view.readAt (Elt F) (Rect.unit (s := S2048x2) ![0, 1] S2048x1.size inb1).toLoadRect fi))
            (k0_pay11 (place c) ((Memref.whole cc0_stg2_0).view.readAt (Elt F) (Rect.unit (s := S2048x2) ![0, 1] S2048x1.size inb1).toLoadRect fi))
            (k0_pay12 (k0_pay2 ((Memref.whole cc0_stg0_0).view.readAt (Elt F) (Rect.unit (s := S2048x1024) ![0, 0] S2048x1024.size inbx).toLoadRect fx))
              ((Memref.whole cc0_stg1_0).view.readAt (Elt F) (Rect.unit (s := S1024x64) ![0, 0] S1024x64.size inbr).toLoadRect frw)
              ((Memref.whole cc0_stg2_0).view.readAt (Elt F) (Rect.unit (s := S2048x2) ![0, 0] S2048x1.size inb0).toLoadRect fi)
              ((Memref.whole cc0_stg2_0).view.readAt (Elt F) (Rect.unit (s := S2048x2) ![0, 1] S2048x1.size inb1).toLoadRect fi))
            (Scalar.ofBits .f32 0x00000000#32)⟩]
      = gateV c fx frw fi := by
  refine (whole_full cc0_scratch1 f inb _ []).trans ?_
  rw [read_x, read_rw, read_col fi 0 inb0 rfl, read_col fi 1 inb1 rfl]
  rfl

omit [FloatOps F] in
/-- Storing one more matrix completes the array, if it held the rest. -/
theorem slab_cons (W : Vec F S8x1024x1024 .bf16) (f : (cc0_scratch2 : Ref sig .tc).ty.Contents (Elt F)) (j : Fin 8) (inb) (L)
    (w : (Rect.unit (s := S8x1024x1024) ![j.val, 0, 0] S1x1024x1024.size inb).shape.Idx → Elt F .bf16) (hw : w = slab (F := F) W j)
    (i : S8x1024x1024.Idx) (h : (i 0).val ≠ j.val → (Memref.whole cc0_scratch2).view.writes (Elt F) f L i = W i) :
    (Memref.whole cc0_scratch2).view.writes (Elt F) f (⟨Rect.unit (s := S8x1024x1024) ![j.val, 0, 0] S1x1024x1024.size inb, w⟩ :: L) i = W i := by
  subst hw
  by_cases hi : (i 0).val = j.val
  · refine (whole_hit cc0_scratch2 f inb _ L i (ix3 (0 : Fin 1) (i 1 : Fin 1024) (i 2 : Fin 1024)) fun a => ?_).trans ?_
    · fin_cases a
      · exact hi
      · exact (Nat.zero_add _).symm
      · exact (Nat.zero_add _).symm
    · refine congrArg W (funext fun a => ?_)
      fin_cases a
      · exact Fin.ext hi.symm
      · rfl
      · rfl
  · refine (whole_miss cc0_scratch2 f inb _ L i 0 ?_).trans (h hi)
    show (i 0).val < j.val ∨ j.val + 1 ≤ (i 0).val
    omega

omit [FloatOps F] in
/-- The eight matrices stored one after another. -/
theorem wb_stored (W : Vec F S8x1024x1024 .bf16) (f : (cc0_scratch2 : Ref sig .tc).ty.Contents (Elt F)) (i0 i1 i2 i3 i4 i5 i6 i7)
    (w0 w1 w2 w3 w4 w5 w6 w7 : Vec F S1x1024x1024 .bf16) (h0 : w0 = slab (F := F) W 0) (h1 : w1 = slab (F := F) W 1) (h2 : w2 = slab (F := F) W 2)
    (h3 : w3 = slab (F := F) W 3) (h4 : w4 = slab (F := F) W 4) (h5 : w5 = slab (F := F) W 5) (h6 : w6 = slab (F := F) W 6) (h7 : w7 = slab (F := F) W 7) :
    (Memref.whole cc0_scratch2).view.writes (Elt F) f
        [⟨Rect.unit (s := S8x1024x1024) ![7, 0, 0] S1x1024x1024.size i7, w7⟩, ⟨Rect.unit (s := S8x1024x1024) ![6, 0, 0] S1x1024x1024.size i6, w6⟩,
         ⟨Rect.unit (s := S8x1024x1024) ![5, 0, 0] S1x1024x1024.size i5, w5⟩, ⟨Rect.unit (s := S8x1024x1024) ![4, 0, 0] S1x1024x1024.size i4, w4⟩,
         ⟨Rect.unit (s := S8x1024x1024) ![3, 0, 0] S1x1024x1024.size i3, w3⟩, ⟨Rect.unit (s := S8x1024x1024) ![2, 0, 0] S1x1024x1024.size i2, w2⟩,
         ⟨Rect.unit (s := S8x1024x1024) ![1, 0, 0] S1x1024x1024.size i1, w1⟩, ⟨Rect.unit (s := S8x1024x1024) ![0, 0, 0] S1x1024x1024.size i0, w0⟩]
      = W := by
  funext i
  have hi : (i 0).val < 8 := (i 0).isLt
  refine slab_cons W f 7 i7 _ w7 h7 i fun n7 => slab_cons W f 6 i6 _ w6 h6 i fun n6 => slab_cons W f 5 i5 _ w5 h5 i fun n5 =>
    slab_cons W f 4 i4 _ w4 h4 i fun n4 => slab_cons W f 3 i3 _ w3 h3 i fun n3 => slab_cons W f 2 i2 _ w2 h2 i fun n2 =>
    slab_cons W f 1 i1 _ w1 h1 i fun n1 => slab_cons W f 0 i0 _ w0 h0 i fun n0 => ?_
  exact absurd hi (by
    have e7 : (i 0).val ≠ 7 := n7; have e6 : (i 0).val ≠ 6 := n6; have e5 : (i 0).val ≠ 5 := n5; have e4 : (i 0).val ≠ 4 := n4
    have e3 : (i 0).val ≠ 3 := n3; have e2 : (i 0).val ≠ 2 := n2; have e1 : (i 0).val ≠ 1 := n1; have e0 : (i 0).val ≠ 0 := n0
    omega)

/-- The load of eight-expert data for the tokens of device `d`, gated and added up. -/
theorem chunk_loaded (X : (cc0_scratch0 : Ref sig .tc).ty.Contents (Elt F)) (W : (cc0_scratch2 : Ref sig .tc).ty.Contents (Elt F)) (G : (cc0_scratch1 : Ref sig .tc).ty.Contents (Elt F))
    (d : Dev nD) {o o0 o1 o2 o3 o4 o5 o6 o7 : Fin 2 → ℕ} (i i0 i1 i2 i3 i4 i5 i6 i7 m0 m1 m2 m3 m4 m5 m6 m7)
    (ho : o = ![256 * d.val, 0]) (h0 : o0 = ![256 * d.val, 0]) (h1 : o1 = ![256 * d.val, 1]) (h2 : o2 = ![256 * d.val, 2]) (h3 : o3 = ![256 * d.val, 3])
    (h4 : o4 = ![256 * d.val, 4]) (h5 : o5 = ![256 * d.val, 5]) (h6 : o6 = ![256 * d.val, 6]) (h7 : o7 = ![256 * d.val, 7]) :
    gated ((Memref.whole cc0_scratch0).view.readAt (Elt F) (Rect.unit (s := S2048x1024) o S256x1024.size i).toLoadRect X)
        ((Memref.whole cc0_scratch2).view.readAt (Elt F) (Rect.unit (s := S8x1024x1024) ![0, 0, 0] S1x1024x1024.size m0).toLoadRect W)
        ((Memref.whole cc0_scratch2).view.readAt (Elt F) (Rect.unit (s := S8x1024x1024) ![1, 0, 0] S1x1024x1024.size m1).toLoadRect W)
        ((Memref.whole cc0_scratch2).view.readAt (Elt F) (Rect.unit (s := S8x1024x1024) ![2, 0, 0] S1x1024x1024.size m2).toLoadRect W)
        ((Memref.whole cc0_scratch2).view.readAt (Elt F) (Rect.unit (s := S8x1024x1024) ![3, 0, 0] S1x1024x1024.size m3).toLoadRect W)
        ((Memref.whole cc0_scratch2).view.readAt (Elt F) (Rect.unit (s := S8x1024x1024) ![4, 0, 0] S1x1024x1024.size m4).toLoadRect W)
        ((Memref.whole cc0_scratch2).view.readAt (Elt F) (Rect.unit (s := S8x1024x1024) ![5, 0, 0] S1x1024x1024.size m5).toLoadRect W)
        ((Memref.whole cc0_scratch2).view.readAt (Elt F) (Rect.unit (s := S8x1024x1024) ![6, 0, 0] S1x1024x1024.size m6).toLoadRect W)
        ((Memref.whole cc0_scratch2).view.readAt (Elt F) (Rect.unit (s := S8x1024x1024) ![7, 0, 0] S1x1024x1024.size m7).toLoadRect W)
        ((Memref.whole cc0_scratch1).view.readAt (Elt F) (Rect.unit (s := S2048x8) o0 S256x1.size i0).toLoadRect G)
        ((Memref.whole cc0_scratch1).view.readAt (Elt F) (Rect.unit (s := S2048x8) o1 S256x1.size i1).toLoadRect G)
        ((Memref.whole cc0_scratch1).view.readAt (Elt F) (Rect.unit (s := S2048x8) o2 S256x1.size i2).toLoadRect G)
        ((Memref.whole cc0_scratch1).view.readAt (Elt F) (Rect.unit (s := S2048x8) o3 S256x1.size i3).toLoadRect G)
        ((Memref.whole cc0_scratch1).view.readAt (Elt F) (Rect.unit (s := S2048x8) o4 S256x1.size i4).toLoadRect G)
        ((Memref.whole cc0_scratch1).view.readAt (Elt F) (Rect.unit (s := S2048x8) o5 S256x1.size i5).toLoadRect G)
        ((Memref.whole cc0_scratch1).view.readAt (Elt F) (Rect.unit (s := S2048x8) o6 S256x1.size i6).toLoadRect G)
        ((Memref.whole cc0_scratch1).view.readAt (Elt F) (Rect.unit (s := S2048x8) o7 S256x1.size i7).toLoadRect G)
      = chunk (F := F) X W G d := by
  rw [read_rows X d i ho, read_slab W 0 m0 rfl, read_slab W 1 m1 rfl, read_slab W 2 m2 rfl, read_slab W 3 m3 rfl, read_slab W 4 m4 rfl, read_slab W 5 m5 rfl,
    read_slab W 6 m6 rfl, read_slab W 7 m7 rfl, read_gate G d 0 i0 h0, read_gate G d 1 i1 h1, read_gate G d 2 i2 h2, read_gate G d 3 i3 h3,
    read_gate G d 4 i4 h4, read_gate G d 5 i5 h5, read_gate G d 6 i6 h6, read_gate G d 7 i7 h7]
  rfl

/-- The output block after its store: the device's own chunk with the seven arrivals added. -/
theorem own_stored (X : (cc0_scratch0 : Ref sig .tc).ty.Contents (Elt F)) (W : (cc0_scratch2 : Ref sig .tc).ty.Contents (Elt F)) (G : (cc0_scratch1 : Ref sig .tc).ty.Contents (Elt F))
    (R : (cc0_scratch5 : Ref sig .tc).ty.Contents (Elt F)) (fo : (cc0_stg3_0 : Ref sig .tc).ty.Contents (Elt F)) (c : Dev nD) (inb i i0 i1 i2 i3 i4 i5 i6 i7 m0 m1 m2 m3 m4 m5 m6 m7) :
    (Memref.whole cc0_stg3_0).view.writes (Elt F) fo [⟨Rect.unit (s := S256x1024) ![0, 0] S256x1024.size inb,
      outV (gated ((Memref.whole cc0_scratch0).view.readAt (Elt F) (Rect.unit (s := S2048x1024) (k0_off10 c) S256x1024.size i).toLoadRect X)
        ((Memref.whole cc0_scratch2).view.readAt (Elt F) (Rect.unit (s := S8x1024x1024) ![0, 0, 0] S1x1024x1024.size m0).toLoadRect W)
        ((Memref.whole cc0_scratch2).view.readAt (Elt F) (Rect.unit (s := S8x1024x1024) ![1, 0, 0] S1x1024x1024.size m1).toLoadRect W)
        ((Memref.whole cc0_scratch2).view.readAt (Elt F) (Rect.unit (s := S8x1024x1024) ![2, 0, 0] S1x1024x1024.size m2).toLoadRect W)
        ((Memref.whole cc0_scratch2).view.readAt (Elt F) (Rect.unit (s := S8x1024x1024) ![3, 0, 0] S1x1024x1024.size m3).toLoadRect W)
        ((Memref.whole cc0_scratch2).view.readAt (Elt F) (Rect.unit (s := S8x1024x1024) ![4, 0, 0] S1x1024x1024.size m4).toLoadRect W)
        ((Memref.whole cc0_scratch2).view.readAt (Elt F) (Rect.unit (s := S8x1024x1024) ![5, 0, 0] S1x1024x1024.size m5).toLoadRect W)
        ((Memref.whole cc0_scratch2).view.readAt (Elt F) (Rect.unit (s := S8x1024x1024) ![6, 0, 0] S1x1024x1024.size m6).toLoadRect W)
        ((Memref.whole cc0_scratch2).view.readAt (Elt F) (Rect.unit (s := S8x1024x1024) ![7, 0, 0] S1x1024x1024.size m7).toLoadRect W)
        ((Memref.whole cc0_scratch1).view.readAt (Elt F) (Rect.unit (s := S2048x8) (k0_off11 c) S256x1.size i0).toLoadRect G)
        ((Memref.whole cc0_scratch1).view.readAt (Elt F) (Rect.unit (s := S2048x8) (k0_off12 c) S256x1.size i1).toLoadRect G)
        ((Memref.whole cc0_scratch1).view.readAt (Elt F) (Rect.unit (s := S2048x8) (k0_off13 c) S256x1.size i2).toLoadRect G)
        ((Memref.whole cc0_scratch1).view.readAt (Elt F) (Rect.unit (s := S2048x8) (k0_off14 c) S256x1.size i3).toLoadRect G)
        ((Memref.whole cc0_scratch1).view.readAt (Elt F) (Rect.unit (s := S2048x8) (k0_off15 c) S256x1.size i4).toLoadRect G)
        ((Memref.whole cc0_scratch1).view.readAt (Elt F) (Rect.unit (s := S2048x8) (k0_off16 c) S256x1.size i5).toLoadRect G)
        ((Memref.whole cc0_scratch1).view.readAt (Elt F) (Rect.unit (s := S2048x8) (k0_off17 c) S256x1.size i6).toLoadRect G)
        ((Memref.whole cc0_scratch1).view.readAt (Elt F) (Rect.unit (s := S2048x8) (k0_off18 c) S256x1.size i7).toLoadRect G)) R⟩]
      = outV (chunk X W G c) R :=
  (whole_full cc0_stg3_0 fo inb _ []).trans (congrArg (fun a => outV a R) (chunk_loaded X W G c i i0 i1 i2 i3 i4 i5 i6 i7 m0 m1 m2 m3 m4 m5 m6 m7
    (k0_off10_eq c) (k0_off11_eq c) (k0_off12_eq c) (k0_off13_eq c) (k0_off14_eq c) (k0_off15_eq c) (k0_off16_eq c) (k0_off17_eq c) (k0_off18_eq c)))

/-- The same from what each load gave. -/
theorem chunk_of (X : Vec F S2048x1024 .bf16) (W : Vec F S8x1024x1024 .bf16) (G : Vec F S2048x8 .f32) (d : Dev nD) {x : Vec F S256x1024 .bf16}
    {w0 w1 w2 w3 w4 w5 w6 w7 : Vec F S1x1024x1024 .bf16} {g0 g1 g2 g3 g4 g5 g6 g7 : Vec F S256x1 .f32} (hx : x = xRows X d)
    (h0 : w0 = slab (F := F) W 0) (h1 : w1 = slab (F := F) W 1) (h2 : w2 = slab (F := F) W 2) (h3 : w3 = slab (F := F) W 3)
    (h4 : w4 = slab (F := F) W 4) (h5 : w5 = slab (F := F) W 5) (h6 : w6 = slab (F := F) W 6) (h7 : w7 = slab (F := F) W 7)
    (e0 : g0 = gCol G d 0) (e1 : g1 = gCol G d 1) (e2 : g2 = gCol G d 2) (e3 : g3 = gCol G d 3)
    (e4 : g4 = gCol G d 4) (e5 : g5 = gCol G d 5) (e6 : g6 = gCol G d 6) (e7 : g7 = gCol G d 7) :
    gated x w0 w1 w2 w3 w4 w5 w6 w7 g0 g1 g2 g3 g4 g5 g6 g7 = chunk X W G d := by
  subst hx h0 h1 h2 h3 h4 h5 h6 h7 e0 e1 e2 e3 e4 e5 e6 e7
  rfl

omit [FloatOps F] in
/-- A chunk's tokens, from contents that agree. -/
theorem read_rows_of {f X : (cc0_scratch0 : Ref sig .tc).ty.Contents (Elt F)} (e : f = X) (d : Dev nD) {o : Fin 2 → ℕ} (inb : ∀ a, o a + S256x1024.size a ≤ S2048x1024.size a)
    (ho : o = ![256 * d.val, 0]) :
    (Memref.whole cc0_scratch0).view.readAt (Elt F) (Rect.unit (s := S2048x1024) o S256x1024.size inb).toLoadRect f = xRows (F := F) X d := by
  subst e; exact read_rows f d inb ho
omit [FloatOps F] in
/-- A chunk's gates, from contents that agree. -/
theorem read_gate_of {f G : (cc0_scratch1 : Ref sig .tc).ty.Contents (Elt F)} (e : f = G) (d : Dev nD) (j : Fin 8) {o : Fin 2 → ℕ} (inb : ∀ a, o a + S256x1.size a ≤ S2048x8.size a)
    (ho : o = ![256 * d.val, j.val]) :
    (Memref.whole cc0_scratch1).view.readAt (Elt F) (Rect.unit (s := S2048x8) o S256x1.size inb).toLoadRect f = gCol (F := F) G d j := by
  subst e; exact read_gate f d j inb ho

/-- The chunk the kernel stores in slot `k`, for the tokens of the device `k + 1` places further. -/
theorem slot_payload (X : Vec F S2048x1024 .bf16) (W : Vec F S8x1024x1024 .bf16) (G : Vec F S2048x8 .f32) (PB : Parts F) (c : Dev nD) (hPB : PB c = partV X W G c)
    (k : Fin 7) (a : FVec F S256x1024 .f32) (ha : a = chunk X W G (dst c k)) (y : S1x256x1024.Idx) :
    shapeCast S1x256x1024 (truncf .bf16 a bitsLt_bf16_f32 : FVec F S256x1024 .bf16) shapeCasts_S256x1024_S1x256x1024 y = PB c (ix3 k (y 1) (y 2)) := by
  subst ha
  rw [hPB]
  exact partV_at X W G c k y

variable (PB : Parts F) (K : Dev nD × CI → ℕ)

/-- The load and the store of one slot of the send buffer: the slot holds what the exchange is to send. -/
theorem fill_step {α : Type} {Q : α → sProp 𝕄} {kt : PUnit → Prog (TpuEff nD τ sig (Elt F) Λ₀ .tc) α} (c : Dev nD) (k : Fin 7)
    (f : (cc0_scratch4 : Ref sig .tc).ty.Contents (Elt F)) (inb inb' : ∀ a, (![k.val, 0, 0] : Fin 3 → ℕ) a + S1x256x1024.size a ≤ S7x256x1024.size a)
    (w : (Rect.unit (s := S7x256x1024) ![k.val, 0, 0] S1x256x1024.size inb).shape.Idx → Elt F .bf16)
    {hl : (Memref.whole cc0_scratch4).view.LoadsAt (Rect.unit (s := S7x256x1024) ![k.val, 0, 0] S1x256x1024.size inb').toLoadRect}
    {hs : ((Memref.whole cc0_scratch4).access (Rect.unit (s := S7x256x1024) ![k.val, 0, 0] S1x256x1024.size inb)).Stores Finset.univ}
    {hm : (Finset.univ : Finset (Rect.unit (s := S7x256x1024) ![k.val, 0, 0] S1x256x1024.size inb).shape.Idx) = Finset.univ ∨
      ∀ a, (Rect.unit (s := S7x256x1024) ![k.val, 0, 0] S1x256x1024.size inb).stride a = 1}
    (hw : ∀ y : S1x256x1024.Idx, w y = PB c (ix3 k (y 1) (y 2))) :
    pPts c k f
      ⊢ iprop((pPts c k (PB c) -∗ wp frame (wpE (defs₀ (F := F)) 𝒱₀ (c : Thread nD τ) none) Set.univ (kt ⟨⟩) Q)
          -∗ wp frame (wpE (defs₀ (F := F)) 𝒱₀ (c : Thread nD τ) none) Set.univ
              (.op (.load (Memref.whole cc0_scratch4) (Rect.unit (s := S7x256x1024) ![k.val, 0, 0] S1x256x1024.size inb').toLoadRect hl) fun _ =>
                .op (.store (Memref.whole cc0_scratch4) (Rect.unit (s := S7x256x1024) ![k.val, 0, 0] S1x256x1024.size inb) w Finset.univ hs hm) kt) Q) := by
  have hset : ((Memref.whole cc0_scratch4).access (Rect.unit (s := S7x256x1024) ![k.val, 0, 0] S1x256x1024.size inb)).setOn Finset.univ = (pSlot k).view.set :=
    (View.set_slice_whole _ _).trans (pSlot_set k).symm
  have hset' : (Memref.whole cc0_scratch4).view.setOn (Rect.unit (s := S7x256x1024) ![k.val, 0, 0] S1x256x1024.size inb').toLoadRect.set ⊆ (pSlot k).view.set := by
    have h : ((Memref.whole cc0_scratch4).access (Rect.unit (s := S7x256x1024) ![k.val, 0, 0] S1x256x1024.size inb')).set ⊆ (pSlot k).view.set := le_of_eq hset
    rwa [View.set_slice] at h
  have hp : ∀ g, (pPts (F := F) c k g : sProp 𝕄) = ((Memref.whole cc0_scratch4).view.loc (c : Thread nD τ) ↦[(pSlot k).view.set]{fullShare} g) := fun _ => rfl
  have hfin : ((Memref.whole cc0_scratch4).view.loc (c : Thread nD τ) ↦[(pSlot k).view.set]{fullShare}
      (((Memref.whole cc0_scratch4).access (Rect.unit (s := S7x256x1024) ![k.val, 0, 0] S1x256x1024.size inb)).write (Elt F) f w Finset.univ) : sProp 𝕄)
        = ((Memref.whole cc0_scratch4).view.loc (c : Thread nD τ) ↦[(pSlot k).view.set]{fullShare} (PB c)) :=
    pointsTo_congr fun i hi => slot_written k inb f (PB c) w hw i (by rw [pSlot_set] at hi; exact hi)
  rw [hp, hp]
  iintro Hp Hk
  iapply (wp_load 𝒱₀ (c : Thread nD τ) none Set.univ (m := Memref.whole cc0_scratch4) hset') $$ Hp

  iintro Hp
  iapply (wp_store 𝒱₀ (c : Thread nD τ) none Set.univ (m := Memref.whole cc0_scratch4)
    (r := Rect.unit (s := S7x256x1024) ![k.val, 0, 0] S1x256x1024.size inb) (Mk := Finset.univ) (le_of_eq hset)) $$ Hp
  rw [← hfin]
  iexact Hk

/-- The load of one slot of the landing buffer. -/
theorem slot_load {α : Type} {Q : α → sProp 𝕄} {kt : Vec F S1x256x1024 .bf16 → Prog (TpuEff nD τ sig (Elt F) Λ₀ .tc) α} (c : Dev nD) (k : Fin 7)
    (R : (cc0_scratch5 : Ref sig .tc).ty.Contents (Elt F)) (inb : ∀ a, (![k.val, 0, 0] : Fin 3 → ℕ) a + S1x256x1024.size a ≤ S7x256x1024.size a)
    {hl : (Memref.whole cc0_scratch5).view.LoadsAt (Rect.unit (s := S7x256x1024) ![k.val, 0, 0] S1x256x1024.size inb).toLoadRect} :
    rPts c k R
      ⊢ iprop((rPts c k R -∗ wp frame (wpE (defs₀ (F := F)) 𝒱₀ (c : Thread nD τ) none) Set.univ (kt (slotV R k)) Q)
          -∗ wp frame (wpE (defs₀ (F := F)) 𝒱₀ (c : Thread nD τ) none) Set.univ
              (.op (.load (Memref.whole cc0_scratch5) (Rect.unit (s := S7x256x1024) ![k.val, 0, 0] S1x256x1024.size inb).toLoadRect hl) kt) Q) := by
  have hset : ((Memref.whole cc0_scratch5).access (Rect.unit (s := S7x256x1024) ![k.val, 0, 0] S1x256x1024.size inb)).set ⊆ (rSlot k).view.set :=
    le_of_eq ((View.set_slice_whole _ _).trans (rSlot_set k).symm)
  rw [View.set_slice] at hset
  have hp : (rPts (F := F) c k R : sProp 𝕄) = ((Memref.whole cc0_scratch5).view.loc (c : Thread nD τ) ↦[(rSlot k).view.set]{fullShare} R) := rfl
  rw [hp, ← read_slot R k inb rfl]
  iintro Hp Hk
  iapply (wp_load 𝒱₀ (c : Thread nD τ) none Set.univ (m := Memref.whole cc0_scratch5) hset) $$ Hp
  iexact Hk

end Cert.MoE
-- ==== Proof.Body.lean ====
module
public import proofs.«01_k».proof.Proof.Steps
/-! One device's run, at a symbolic device: the barrier, the partial sums, the exchange and the final sum. -/
@[expose] public section
noncomputable section
namespace Cert.MoE
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
variable {F : FTy → Type} [FloatOps F]
local notation "𝕄" => MT nD τ sig Bool (Elt F) ℕ UU ℕ
variable (PB : Parts F) (K : Dev nD × CI → ℕ)

/-- A whole buffer of device `c`, holding `f`. -/
abbrev wPts (c : Dev nD) (b : Ref sig .tc) (f : b.ty.Contents (Elt F)) : sProp 𝕄 :=
  iprop(((Memref.whole b).view.loc ((c : Dev nD) : Thread nD τ)) ↦{fullShare} f)

omit [FloatOps F] in
/-- A product over the seven slots, written out. -/
theorem over7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the waits of the exchange take. -/
def forWaits (c : Dev nD) : sProp 𝕄 :=
  iprop((bigSep Finset.univ fun k : Fin 7 => cred (tallyAt (recvCell c k) true N))
    ∗ (bigSep Finset.univ fun k : Fin 7 => atPos ER (recvCell c k) 0 ∅ 0)
    ∗ (bigSep Finset.univ fun k : Fin 7 => atPos ER (sendCell c k) 0 ∅ 0))
/-- What the barrier's wait and the sends take. -/
def forSends (c : Dev nD) (fp : Vec F S7x256x1024 .bf16) : sProp 𝕄 :=
  iprop(cred (tallyAt (barCell c) true 7) ∗ atPos ER (barCell c) 0 ∅ 0
    ∗ (bigSep Finset.univ fun k : Fin 7 => dutyTok ER (sendCell c k) 0 0)
    ∗ (bigSep Finset.univ fun k : Fin 7 => dutyTok ER (recvCell (dst c k) (Fin.rev k)) 0 0)
    ∗ (bigSep Finset.univ fun k : Fin 7 => pPts c k fp))

/-- What a device's run starts from. -/
def bodyPre (c : Dev nD) (W : Waits sig Bool) (fx : Vec F S2048x1024 .f32) (frw : Vec F S1024x64 .f32) (fi : Vec F S2048x2 .i32) (fo : Vec F S256x1024 .f32)
    (fw : Vec F S8x1024x1024 .f32) (fb : Vec F S2048x1024 .bf16) (fg : Vec F S2048x8 .f32) (fwb : Vec F S8x1024x1024 .bf16) (fst : Vec F S2x1024x1024 .f32)
    (fp fr : Vec F S7x256x1024 .bf16) : sProp 𝕄 :=
  iprop(records PB K ∗ levAts L lv ∗ owes (c : Thread nD τ) (Os c 0 + Ob c 0) W
    ∗ (bigSep Finset.univ fun k : Fin 7 => dutyTok ER (barCell (dst c k)) 0 (Fin.rev k))
    ∗ (bigSep Finset.univ fun k : Fin 7 => rPts c k fr)
    ∗ forWaits c ∗ forSends c fp
    ∗ semVal ((c : Thread nD τ), SemLoc.dma (4 : DmaSem sig)) 0 ∗ semVal ((c : Thread nD τ), SemLoc.dma (5 : DmaSem sig)) 0
    ∗ wPts c cc0_stg0_0 fx ∗ wPts c cc0_stg1_0 frw ∗ wPts c cc0_stg2_0 fi ∗ wPts c main_arg3 fw ∗ wPts c cc0_stg3_0 fo
    ∗ wPts c cc0_scratch0 fb ∗ wPts c cc0_scratch1 fg ∗ wPts c cc0_scratch2 fwb ∗ wPts c cc0_scratch3 fst)

/-- What it ends with: the argument buffers as they were, the output block, and every semaphore it used back at zero. -/
def bodyPost (c : Dev nD) (fx : Vec F S2048x1024 .f32) (frw : Vec F S1024x64 .f32) (fi : Vec F S2048x2 .i32) (fw : Vec F S8x1024x1024 .f32) : sProp 𝕄 :=
  iprop((∃ W, owes (c : Thread nD τ) 0 W)
    ∗ semVal (barCell c) 0
    ∗ (bigSep Finset.univ fun k : Fin 7 => semVal (sendCell c k) 0)
    ∗ (bigSep Finset.univ fun k : Fin 7 => semVal (recvCell c k) 0)
    ∗ semVal ((c : Thread nD τ), SemLoc.dma (4 : DmaSem sig)) 0 ∗ semVal ((c : Thread nD τ), SemLoc.dma (5 : DmaSem sig)) 0
    ∗ wPts c cc0_stg0_0 fx ∗ wPts c cc0_stg1_0 frw ∗ wPts c cc0_stg2_0 fi ∗ wPts c main_arg3 fw
    ∗ wPts c cc0_stg3_0 (outV (chunk (xbV fx) (wbV fw) (gateV c fx frw fi) c) (landed PB c))
    ∗ (∃ f, wPts c cc0_scratch0 f) ∗ (∃ f, wPts c cc0_scratch1 f) ∗ (∃ f, wPts c cc0_scratch2 f) ∗ (∃ f, wPts c cc0_scratch3 f)
    ∗ (∃ f, wPts c cc0_scratch4 f) ∗ (∃ f, wPts c cc0_scratch5 f))

set_option maxHeartbeats 0
set_option maxRecDepth 65536
set_option sl_exec.dmaWindow true
/-- The run of one device, from its resources to its results. -/
theorem body_run (c : Dev nD) (W : Waits sig Bool) (Q : PUnit → sProp 𝕄) (fx : Vec F S2048x1024 .f32) (frw : Vec F S1024x64 .f32) (fi : Vec F S2048x2 .i32) (fo : Vec F S256x1024 .f32)
    (fw : Vec F S8x1024x1024 .f32) (fb : Vec F S2048x1024 .bf16) (fg : Vec F S2048x8 .f32) (fwb : Vec F S8x1024x1024 .bf16) (fst : Vec F S2x1024x1024 .f32)
    (fp fr : Vec F S7x256x1024 .bf16) (hPB : PB c = partV (xbV fx) (wbV fw) (gateV c fx frw fi) c) :
    iprop(bodyPre PB K c W fx frw fi fo fw fb fg fwb fst fp fr ∗ (bodyPost PB c fx frw fi fw -∗ Q ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_stg2_0) (Memref.isWhole_whole _) (Memref.whole main_arg3) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8) Q := by
  simp only [cc0_body_eq_skeleton]; unfold cc0_body_skel
  simp only [k0_part37_eq_skeleton]; unfold k0_part37_skel
  simp only [k0_part1_eq_skeleton]; unfold k0_part1_skel
  simp only [k0_part2_eq_skeleton]; unfold k0_part2_skel
  simp only [semSignalWord, semWaitWord, Prog.lift, Prog.bind_op, Prog.bind_ret, Prog.pure_eq_ret, wp_deviceId]
  unfold bodyPre bodyPost
  simp only [over7]
  iintro ⟨⟨#HR, #HL, HO, ⟨Ht0, Ht1, Ht2, Ht3, Ht4, Ht5, Ht6⟩, ⟨Hr0, Hr1, Hr2, Hr3, Hr4, Hr5, Hr6⟩, HFW, HFS, HsA, HsB, Hx, Hrw, Hi, Hw, Ho, Hb, Hg, Hwb, Hst⟩, Hk⟩
  iapply (signal_step PB K c 0 _ (Fin.ext (k0_dev1_eq c)) _ (by decide) (Os c 0) W fr) $$ [HO Ht0 Hr0]
  · isplitr; · iexact HR
    isplitl [HO]; · iexact HO
    isplitl [Ht0] <;> iassumption
  iintro HO
  iapply (signal_step PB K c 1 _ (Fin.ext (k0_dev2_eq c)) _ (by decide) (Os c 0) W fr) $$ [HO Ht1 Hr1]
  · isplitr; · iexact HR
    isplitl [HO]; · iexact HO
    isplitl [Ht1] <;> iassumption
  iintro HO
  iapply (signal_step PB K c 2 _ (Fin.ext (k0_dev3_eq c)) _ (by decide) (Os c 0) W fr) $$ [HO Ht2 Hr2]
  · isplitr; · iexact HR
    isplitl [HO]; · iexact HO
    isplitl [Ht2] <;> iassumption
  iintro HO
  iapply (signal_step PB K c 3 _ (Fin.ext (k0_dev4_eq c)) _ (by decide) (Os c 0) W fr) $$ [HO Ht3 Hr3]
  · isplitr; · iexact HR
    isplitl [HO]; · iexact HO
    isplitl [Ht3] <;> iassumption
  iintro HO
  iapply (signal_step PB K c 4 _ (Fin.ext (k0_dev5_eq c)) _ (by decide) (Os c 0) W fr) $$ [HO Ht4 Hr4]
  · isplitr; · iexact HR
    isplitl [HO]; · iexact HO
    isplitl [Ht4] <;> iassumption
  iintro HO
  iapply (signal_step PB K c 5 _ (Fin.ext (k0_dev6_eq c)) _ (by decide) (Os c 0) W fr) $$ [HO Ht5 Hr5]
  · isplitr; · iexact HR
    isplitl [HO]; · iexact HO
    isplitl [Ht5] <;> iassumption
  iintro HO
  iapply (signal_step PB K c 6 _ (Fin.ext (k0_dev7_eq c)) _ (by decide) (Os c 0) W fr) $$ [HO Ht6 Hr6]
  · isplitr; · iexact HR
    isplitl [HO]; · iexact HO
    isplitl [Ht6] <;> iassumption
  iintro HO
  ihave #HM := (Transfers.MayWaits.intro (fun sm => mayWait_own (F := F) c 0 7 sm)) $$ HL
  sl_exec
  -- what the buffers hold now, in closed form
  have eb : (Memref.whole cc0_scratch0).view.writes (Elt F) (Memref.whole cc0_scratch0).view.junk (body_run.sl.Hb_1 fx) = xbV (F := F) fx := xb_stored _ fx _ _
  have eg : (Memref.whole cc0_scratch1).view.writes (Elt F) (Memref.whole cc0_scratch1).view.junk (body_run.sl.Hg_1 c fx frw fi) = gateV c fx frw fi :=
    gate_stored _ c fx frw fi _ _ _ _ _
  have m0 : k0_pay15 (body_run.sl.v113 fw fst) = slab (F := F) (wbV fw) 0 :=
    (congrArg k0_pay15 ((stage_skip 0 1 (by decide) _ _ _ _).trans (stage_hit 0 0 _ _ _ _ fw))).trans (pay_slab fw 0)
  have m1 : k0_pay17 (body_run.sl.v142 fw fst) = slab (F := F) (wbV fw) 1 :=
    (congrArg k0_pay15 ((stage_skip 1 0 (by decide) _ _ _ _).trans (stage_hit 1 1 _ _ _ _ fw))).trans (pay_slab fw 1)
  have m2 : k0_pay19 (body_run.sl.v171 fw fst) = slab (F := F) (wbV fw) 2 :=
    (congrArg k0_pay15 ((stage_skip 0 1 (by decide) _ _ _ _).trans (stage_hit 0 2 _ _ _ _ fw))).trans (pay_slab fw 2)
  have m3 : k0_pay21 (body_run.sl.v200 fw fst) = slab (F := F) (wbV fw) 3 :=
    (congrArg k0_pay15 ((stage_skip 1 0 (by decide) _ _ _ _).trans (stage_hit 1 3 _ _ _ _ fw))).trans (pay_slab fw 3)
  have m4 : k0_pay23 (body_run.sl.v229 fw fst) = slab (F := F) (wbV fw) 4 :=
    (congrArg k0_pay15 ((stage_skip 0 1 (by decide) _ _ _ _).trans (stage_hit 0 4 _ _ _ _ fw))).trans (pay_slab fw 4)
  have m5 : k0_pay25 (body_run.sl.v258 fw fst) = slab (F := F) (wbV fw) 5 :=
    (congrArg k0_pay15 ((stage_skip 1 0 (by decide) _ _ _ _).trans (stage_hit 1 5 _ _ _ _ fw))).trans (pay_slab fw 5)
  have m6 : k0_pay26 (body_run.sl.v287 fw fst) = slab (F := F) (wbV fw) 6 :=
    (congrArg k0_pay15 ((stage_skip 0 1 (by decide) _ _ _ _).trans (stage_hit 0 6 _ _ _ _ fw))).trans (pay_slab fw 6)
  have m7 : k0_pay28 (body_run.sl.v310 fw fst) = slab (F := F) (wbV fw) 7 :=
    (congrArg k0_pay15 ((stage_hit 1 7 _ _ _ _ fw))).trans (pay_slab fw 7)
  have ewb : (Memref.whole cc0_scratch2).view.writes (Elt F) fwb (body_run.sl.Hwb_8 fw fst) = wbV fw :=
    wb_stored (wbV fw) fwb _ _ _ _ _ _ _ _ _ _ _ _ _ _ _ _ m0 m1 m2 m3 m4 m5 m6 m7
  rw [eb, eg, ewb, show Ob c ((6 : Fin 7).val + 1) = 0 from Ob_end c, add_zero]
  unfold forSends
  simp -proj only [over7]
  icases HFS with ⟨HcB, HaB, ⟨Hd0, Hd1, Hd2, Hd3, Hd4, Hd5, Hd6⟩, ⟨He0, He1, He2, He3, He4, He5, He6⟩, ⟨Hp0, Hp1, Hp2, Hp3, Hp4, Hp5, Hp6⟩⟩
  iapply (barrier_step PB K c _ (by decide) _) $$ [HcB HO HaB]
  · isplitr; · iexact HR
    isplitr; · iexact HL
    isplitl [HcB]; · iexact HcB
    isplitl [HO] <;> iassumption
  simp -proj only [over7, wp_ret]
  iintro ⟨HO, Hzb, Hq0, Hq1, Hq2, Hq3, Hq4, Hq5, Hq6⟩
  imodintro
  simp -proj only [Prog.lift, Prog.bind_op, Prog.bind_ret, Prog.pure_eq_ret]
  iapply (fill_step PB c 0 fp _ _ _ ?_) $$ Hp0
  · intro y
    refine slot_payload (xbV fx) (wbV fw) (gateV c fx frw fi) PB c hPB 0 _ (chunk_of (xbV fx) (wbV fw) (gateV c fx frw fi) (dst c 0) ?_ ?_ ?_ ?_ ?_ ?_ ?_ ?_ ?_ ?_ ?_ ?_ ?_ ?_ ?_ ?_ ?_) y
    · exact read_rows_of eb (dst c 0) _ (k0_off1_eq c 0)
    · exact (cov_hit _ _ _ _ _).trans m0
    · exact (cov_hit _ _ _ _ _).trans m1
    · exact (cov_hit _ _ _ _ _).trans m2
    · exact (cov_hit _ _ _ _ _).trans m3
    · exact (cov_hit _ _ _ _ _).trans m4
    · exact (cov_hit _ _ _ _ _).trans m5
    · exact (cov_hit _ _ _ _ _).trans m6
    · exact (cov_hit _ _ _ _ _).trans m7
    · exact read_gate_of eg (dst c 0) 0 _ (k0_off2_eq c 0)
    · exact read_gate_of eg (dst c 0) 1 _ (k0_off3_eq c 0)
    · exact read_gate_of eg (dst c 0) 2 _ (k0_off4_eq c 0)
    · exact read_gate_of eg (dst c 0) 3 _ (k0_off5_eq c 0)
    · exact read_gate_of eg (dst c 0) 4 _ (k0_off6_eq c 0)
    · exact read_gate_of eg (dst c 0) 5 _ (k0_off7_eq c 0)
    · exact read_gate_of eg (dst c 0) 6 _ (k0_off8_eq c 0)
    · exact read_gate_of eg (dst c 0) 7 _ (k0_off9_eq c 0)

  iintro Hp0
  simp -proj only [wp_ret]
  imodintro
  simp -proj only [k0_part12_eq_skeleton]; unfold k0_part12_skel
  simp -proj only [Prog.lift, Prog.bind_op, Prog.bind_ret, Prog.pure_eq_ret]
  iapply (send_step PB K c 0 _ (Fin.ext (k0_dev8_eq c)) _ _ (by decide) (by decide) _) $$ [Hp0 Hq0 HO Hd0 He0]
  · isplitr; · iexact HR
    isplitl [Hp0]; · iexact Hp0
    isplitl [Hq0]; · iexact Hq0
    isplitl [HO]; · iexact HO
    isplitl [Hd0] <;> iassumption
  iintro ⟨Hf0, HO⟩
  sl_exec
  try simp -proj only [Prog.lift, Prog.bind_op, Prog.bind_ret, Prog.pure_eq_ret]
  iapply (fill_step PB c 1 fp _ _ _ ?_) $$ Hp1
  · intro y
    exact slot_payload (xbV fx) (wbV fw) (gateV c fx frw fi) PB c hPB 1 _ (chunk_loaded (xbV fx) (wbV fw) (gateV c fx frw fi) (dst c 1) _ _ _ _ _ _ _ _ _ _ _ _ _ _ _ _ _
      (show k0_off1 c 2#32 = ![256 * (dst c 1).val, 0] from k0_off1_eq c 1) (show k0_off2 c 2#32 = ![256 * (dst c 1).val, 0] from k0_off2_eq c 1) (show k0_off3 c 2#32 = ![256 * (dst c 1).val, 1] from k0_off3_eq c 1) (show k0_off4 c 2#32 = ![256 * (dst c 1).val, 2] from k0_off4_eq c 1) (show k0_off5 c 2#32 = ![256 * (dst c 1).val, 3] from k0_off5_eq c 1) (show k0_off6 c 2#32 = ![256 * (dst c 1).val, 4] from k0_off6_eq c 1) (show k0_off7 c 2#32 = ![256 * (dst c 1).val, 5] from k0_off7_eq c 1) (show k0_off8 c 2#32 = ![256 * (dst c 1).val, 6] from k0_off8_eq c 1) (show k0_off9 c 2#32 = ![256 * (dst c 1).val, 7] from k0_off9_eq c 1)) y

  iintro Hp1
  simp -proj only [wp_ret]
  imodintro
  simp -proj only [k0_part15_eq_skeleton]; unfold k0_part15_skel
  simp -proj only [Prog.lift, Prog.bind_op, Prog.bind_ret, Prog.pure_eq_ret]
  iapply (send_step PB K c 1 _ (Fin.ext (k0_dev9_eq c)) _ _ (by decide) (by decide) _) $$ [Hp1 Hq1 HO Hd1 He1]
  · isplitr; · iexact HR
    isplitl [Hp1]; · iexact Hp1
    isplitl [Hq1]; · iexact Hq1
    isplitl [HO]; · iexact HO
    isplitl [Hd1] <;> iassumption
  iintro ⟨Hf1, HO⟩
  sl_exec
  try simp -proj only [Prog.lift, Prog.bind_op, Prog.bind_ret, Prog.pure_eq_ret]
  iapply (fill_step PB c 2 fp _ _ _ ?_) $$ Hp2
  · intro y
    exact slot_payload (xbV fx) (wbV fw) (gateV c fx frw fi) PB c hPB 2 _ (chunk_loaded (xbV fx) (wbV fw) (gateV c fx frw fi) (dst c 2) _ _ _ _ _ _ _ _ _ _ _ _ _ _ _ _ _
      (show k0_off1 c 3#32 = ![256 * (dst c 2).val, 0] from k0_off1_eq c 2) (show k0_off2 c 3#32 = ![256 * (dst c 2).val, 0] from k0_off2_eq c 2) (show k0_off3 c 3#32 = ![256 * (dst c 2).val, 1] from k0_off3_eq c 2) (show k0_off4 c 3#32 = ![256 * (dst c 2).val, 2] from k0_off4_eq c 2) (show k0_off5 c 3#32 = ![256 * (dst c 2).val, 3] from k0_off5_eq c 2) (show k0_off6 c 3#32 = ![256 * (dst c 2).val, 4] from k0_off6_eq c 2) (show k0_off7 c 3#32 = ![256 * (dst c 2).val, 5] from k0_off7_eq c 2) (show k0_off8 c 3#32 = ![256 * (dst c 2).val, 6] from k0_off8_eq c 2) (show k0_off9 c 3#32 = ![256 * (dst c 2).val, 7] from k0_off9_eq c 2)) y

  iintro Hp2
  simp -proj only [wp_ret]
  imodintro
  simp -proj only [k0_part18_eq_skeleton]; unfold k0_part18_skel
  simp -proj only [Prog.lift, Prog.bind_op, Prog.bind_ret, Prog.pure_eq_ret]
  iapply (send_step PB K c 2 _ (Fin.ext (k0_dev10_eq c)) _ _ (by decide) (by decide) _) $$ [Hp2 Hq2 HO Hd2 He2]
  · isplitr; · iexact HR
    isplitl [Hp2]; · iexact Hp2
    isplitl [Hq2]; · iexact Hq2
    isplitl [HO]; · iexact HO
    isplitl [Hd2] <;> iassumption
  iintro ⟨Hf2, HO⟩
  sl_exec
  try simp -proj only [Prog.lift, Prog.bind_op, Prog.bind_ret, Prog.pure_eq_ret]
  iapply (fill_step PB c 3 fp _ _ _ ?_) $$ Hp3
  · intro y
    exact slot_payload (xbV fx) (wbV fw) (gateV c fx frw fi) PB c hPB 3 _ (chunk_loaded (xbV fx) (wbV fw) (gateV c fx frw fi) (dst c 3) _ _ _ _ _ _ _ _ _ _ _ _ _ _ _ _ _
      (show k0_off1 c 4#32 = ![256 * (dst c 3).val, 0] from k0_off1_eq c 3) (show k0_off2 c 4#32 = ![256 * (dst c 3).val, 0] from k0_off2_eq c 3) (show k0_off3 c 4#32 = ![256 * (dst c 3).val, 1] from k0_off3_eq c 3) (show k0_off4 c 4#32 = ![256 * (dst c 3).val, 2] from k0_off4_eq c 3) (show k0_off5 c 4#32 = ![256 * (dst c 3).val, 3] from k0_off5_eq c 3) (show k0_off6 c 4#32 = ![256 * (dst c 3).val, 4] from k0_off6_eq c 3) (show k0_off7 c 4#32 = ![256 * (dst c 3).val, 5] from k0_off7_eq c 3) (show k0_off8 c 4#32 = ![256 * (dst c 3).val, 6] from k0_off8_eq c 3) (show k0_off9 c 4#32 = ![256 * (dst c 3).val, 7] from k0_off9_eq c 3)) y

  iintro Hp3
  simp -proj only [wp_ret]
  imodintro
  simp -proj only [k0_part21_eq_skeleton]; unfold k0_part21_skel
  simp -proj only [Prog.lift, Prog.bind_op, Prog.bind_ret, Prog.pure_eq_ret]
  iapply (send_step PB K c 3 _ (Fin.ext (k0_dev11_eq c)) _ _ (by decide) (by decide) _) $$ [Hp3 Hq3 HO Hd3 He3]
  · isplitr; · iexact HR
    isplitl [Hp3]; · iexact Hp3
    isplitl [Hq3]; · iexact Hq3
    isplitl [HO]; · iexact HO
    isplitl [Hd3] <;> iassumption
  iintro ⟨Hf3, HO⟩
  sl_exec
  try simp -proj only [Prog.lift, Prog.bind_op, Prog.bind_ret, Prog.pure_eq_ret]
  iapply (fill_step PB c 4 fp _ _ _ ?_) $$ Hp4
  · intro y
    exact slot_payload (xbV fx) (wbV fw) (gateV c fx frw fi) PB c hPB 4 _ (chunk_loaded (xbV fx) (wbV fw) (gateV c fx frw fi) (dst c 4) _ _ _ _ _ _ _ _ _ _ _ _ _ _ _ _ _
      (show k0_off1 c 5#32 = ![256 * (dst c 4).val, 0] from k0_off1_eq c 4) (show k0_off2 c 5#32 = ![256 * (dst c 4).val, 0] from k0_off2_eq c 4) (show k0_off3 c 5#32 = ![256 * (dst c 4).val, 1] from k0_off3_eq c 4) (show k0_off4 c 5#32 = ![256 * (dst c 4).val, 2] from k0_off4_eq c 4) (show k0_off5 c 5#32 = ![256 * (dst c 4).val, 3] from k0_off5_eq c 4) (show k0_off6 c 5#32 = ![256 * (dst c 4).val, 4] from k0_off6_eq c 4) (show k0_off7 c 5#32 = ![256 * (dst c 4).val, 5] from k0_off7_eq c 4) (show k0_off8 c 5#32 = ![256 * (dst c 4).val, 6] from k0_off8_eq c 4) (show k0_off9 c 5#32 = ![256 * (dst c 4).val, 7] from k0_off9_eq c 4)) y

  iintro Hp4
  simp -proj only [wp_ret]
  imodintro
  simp -proj only [k0_part24_eq_skeleton]; unfold k0_part24_skel
  simp -proj only [Prog.lift, Prog.bind_op, Prog.bind_ret, Prog.pure_eq_ret]
  iapply (send_step PB K c 4 _ (Fin.ext (k0_dev12_eq c)) _ _ (by decide) (by decide) _) $$ [Hp4 Hq4 HO Hd4 He4]
  · isplitr; · iexact HR
    isplitl [Hp4]; · iexact Hp4
    isplitl [Hq4]; · iexact Hq4
    isplitl [HO]; · iexact HO
    isplitl [Hd4] <;> iassumption
  iintro ⟨Hf4, HO⟩
  sl_exec
  try simp -proj only [Prog.lift, Prog.bind_op, Prog.bind_ret, Prog.pure_eq_ret]
  iapply (fill_step PB c 5 fp _ _ _ ?_) $$ Hp5
  · intro y
    exact slot_payload (xbV fx) (wbV fw) (gateV c fx frw fi) PB c hPB 5 _ (chunk_loaded (xbV fx) (wbV fw) (gateV c fx frw fi) (dst c 5) _ _ _ _ _ _ _ _ _ _ _ _ _ _ _ _ _
      (show k0_off1 c 6#32 = ![256 * (dst c 5).val, 0] from k0_off1_eq c 5) (show k0_off2 c 6#32 = ![256 * (dst c 5).val, 0] from k0_off2_eq c 5) (show k0_off3 c 6#32 = ![256 * (dst c 5).val, 1] from k0_off3_eq c 5) (show k0_off4 c 6#32 = ![256 * (dst c 5).val, 2] from k0_off4_eq c 5) (show k0_off5 c 6#32 = ![256 * (dst c 5).val, 3] from k0_off5_eq c 5) (show k0_off6 c 6#32 = ![256 * (dst c 5).val, 4] from k0_off6_eq c 5) (show k0_off7 c 6#32 = ![256 * (dst c 5).val, 5] from k0_off7_eq c 5) (show k0_off8 c 6#32 = ![256 * (dst c 5).val, 6] from k0_off8_eq c 5) (show k0_off9 c 6#32 = ![256 * (dst c 5).val, 7] from k0_off9_eq c 5)) y

  iintro Hp5
  simp -proj only [wp_ret]
  imodintro
  simp -proj only [k0_part27_eq_skeleton]; unfold k0_part27_skel
  simp -proj only [Prog.lift, Prog.bind_op, Prog.bind_ret, Prog.pure_eq_ret]
  iapply (send_step PB K c 5 _ (Fin.ext (k0_dev13_eq c)) _ _ (by decide) (by decide) _) $$ [Hp5 Hq5 HO Hd5 He5]
  · isplitr; · iexact HR
    isplitl [Hp5]; · iexact Hp5
    isplitl [Hq5]; · iexact Hq5
    isplitl [HO]; · iexact HO
    isplitl [Hd5] <;> iassumption
  iintro ⟨Hf5, HO⟩
  sl_exec
  try simp -proj only [Prog.lift, Prog.bind_op, Prog.bind_ret, Prog.pure_eq_ret]
  iapply (fill_step PB c 6 fp _ _ _ ?_) $$ Hp6
  · intro y
    exact slot_payload (xbV fx) (wbV fw) (gateV c fx frw fi) PB c hPB 6 _ (chunk_loaded (xbV fx) (wbV fw) (gateV c fx frw fi) (dst c 6) _ _ _ _ _ _ _ _ _ _ _ _ _ _ _ _ _
      (show k0_off1 c 7#32 = ![256 * (dst c 6).val, 0] from k0_off1_eq c 6) (show k0_off2 c 7#32 = ![256 * (dst c 6).val, 0] from k0_off2_eq c 6) (show k0_off3 c 7#32 = ![256 * (dst c 6).val, 1] from k0_off3_eq c 6) (show k0_off4 c 7#32 = ![256 * (dst c 6).val, 2] from k0_off4_eq c 6) (show k0_off5 c 7#32 = ![256 * (dst c 6).val, 3] from k0_off5_eq c 6) (show k0_off6 c 7#32 = ![256 * (dst c 6).val, 4] from k0_off6_eq c 6) (show k0_off7 c 7#32 = ![256 * (dst c 6).val, 5] from k0_off7_eq c 6) (show k0_off8 c 7#32 = ![256 * (dst c 6).val, 6] from k0_off8_eq c 6) (show k0_off9 c 7#32 = ![256 * (dst c 6).val, 7] from k0_off9_eq c 6)) y

  iintro Hp6
  simp -proj only [wp_ret]
  imodintro
  simp -proj only [k0_part30_eq_skeleton]; unfold k0_part30_skel
  simp -proj only [Prog.lift, Prog.bind_op, Prog.bind_ret, Prog.pure_eq_ret]
  iapply (send_step PB K c 6 _ (Fin.ext (k0_dev14_eq c)) _ _ (by decide) (by decide) _) $$ [Hp6 Hq6 HO Hd6 He6]
  · isplitr; · iexact HR
    isplitl [Hp6]; · iexact Hp6
    isplitl [Hq6]; · iexact Hq6
    isplitl [HO]; · iexact HO
    isplitl [Hd6] <;> iassumption
  iintro ⟨Hf6, HO⟩
  sl_exec
  rw [show Os c ((6 : Fin 7).val + 1) = 0 from Os_end c]
  unfold forWaits
  simp -proj only [over7]
  icases HFW with ⟨⟨Hc0, Hc1, Hc2, Hc3, Hc4, Hc5, Hc6⟩, ⟨Hv0, Hv1, Hv2, Hv3, Hv4, Hv5, Hv6⟩, ⟨Hs0, Hs1, Hs2, Hs3, Hs4, Hs5, Hs6⟩⟩
  iapply (arrive_step PB K c 6 _ (by decide) _) $$ [Hc6 HO Hv6]
  · isplitr; · iexact HR
    isplitl [Hc6]; · iexact Hc6
    isplitl [HO] <;> iassumption
  iintro ⟨HO, Hz6, Hr6⟩
  iapply (slot_load c 6 (landed PB c) _) $$ Hr6
  iintro Hr6
  try (simp -proj only [Prog.lift, Prog.bind_op, Prog.bind_ret, Prog.pure_eq_ret, Prog.bind, wp_ret]; imodintro)
  simp -proj only [k0_part33_eq_skeleton]; unfold k0_part33_skel
  simp -proj only [Prog.lift, Prog.bind_op, Prog.bind_ret, Prog.pure_eq_ret]
  iapply (arrive_step PB K c 5 _ (by decide) _) $$ [Hc5 HO Hv5]
  · isplitr; · iexact HR
    isplitl [Hc5]; · iexact Hc5
    isplitl [HO] <;> iassumption
  iintro ⟨HO, Hz5, Hr5⟩
  iapply (slot_load c 5 (landed PB c) _) $$ Hr5
  iintro Hr5
  iapply (arrive_step PB K c 4 _ (by decide) _) $$ [Hc4 HO Hv4]
  · isplitr; · iexact HR
    isplitl [Hc4]; · iexact Hc4
    isplitl [HO] <;> iassumption
  iintro ⟨HO, Hz4, Hr4⟩
  iapply (slot_load c 4 (landed PB c) _) $$ Hr4
  iintro Hr4
  try (simp -proj only [Prog.lift, Prog.bind_op, Prog.bind_ret, Prog.pure_eq_ret, Prog.bind, wp_ret]; imodintro)
  simp -proj only [k0_part34_eq_skeleton]; unfold k0_part34_skel
  simp -proj only [Prog.lift, Prog.bind_op, Prog.bind_ret, Prog.pure_eq_ret]
  iapply (arrive_step PB K c 3 _ (by decide) _) $$ [Hc3 HO Hv3]
  · isplitr; · iexact HR
    isplitl [Hc3]; · iexact Hc3
    isplitl [HO] <;> iassumption
  iintro ⟨HO, Hz3, Hr3⟩
  iapply (slot_load c 3 (landed PB c) _) $$ Hr3
  iintro Hr3
  iapply (arrive_step PB K c 2 _ (by decide) _) $$ [Hc2 HO Hv2]
  · isplitr; · iexact HR
    isplitl [Hc2]; · iexact Hc2
    isplitl [HO] <;> iassumption
  iintro ⟨HO, Hz2, Hr2⟩
  iapply (slot_load c 2 (landed PB c) _) $$ Hr2
  iintro Hr2
  try (simp -proj only [Prog.lift, Prog.bind_op, Prog.bind_ret, Prog.pure_eq_ret, Prog.bind, wp_ret]; imodintro)
  simp -proj only [k0_part35_eq_skeleton]; unfold k0_part35_skel
  simp -proj only [Prog.lift, Prog.bind_op, Prog.bind_ret, Prog.pure_eq_ret]
  iapply (arrive_step PB K c 1 _ (by decide) _) $$ [Hc1 HO Hv1]
  · isplitr; · iexact HR
    isplitl [Hc1]; · iexact Hc1
    isplitl [HO] <;> iassumption
  iintro ⟨HO, Hz1, Hr1⟩
  iapply (slot_load c 1 (landed PB c) _) $$ Hr1
  iintro Hr1
  iapply (arrive_step PB K c 0 _ (by decide) _) $$ [Hc0 HO Hv0]
  · isplitr; · iexact HR
    isplitl [Hc0]; · iexact Hc0
    isplitl [HO] <;> iassumption
  iintro ⟨HO, Hz0, Hr0⟩
  iapply (slot_load c 0 (landed PB c) _) $$ Hr0
  iintro Hr0
  sl_exec
  ihave Ho' := (Entails.of_eq (congrArg (fun f => wPts c cc0_stg3_0 f) (own_stored (xbV fx) (wbV fw) (gateV c fx frw fi) (landed PB c) fo c _ _ _ _ _ _ _ _ _ _ _ _ _ _ _ _ _ _))) $$ [Ho]
  · iexact Ho
  iapply (depart_step PB K c 0 _ (by decide) _) $$ [Hf0 HO Hs0]
  · isplitr; · iexact HR
    isplitl [Hf0]; · iexact Hf0
    isplitl [HO] <;> iassumption
  iintro ⟨HO, Hy0, Hp0⟩
  try (simp -proj only [Prog.lift, Prog.bind_op, Prog.bind_ret, Prog.pure_eq_ret, Prog.bind, wp_ret]; imodintro)
  simp -proj only [k0_part36_eq_skeleton]; unfold k0_part36_skel
  simp -proj only [Prog.lift, Prog.bind_op, Prog.bind_ret, Prog.pure_eq_ret]
  iapply (depart_step PB K c 1 _ (by decide) _) $$ [Hf1 HO Hs1]
  · isplitr; · iexact HR
    isplitl [Hf1]; · iexact Hf1
    isplitl [HO] <;> iassumption
  iintro ⟨HO, Hy1, Hp1⟩
  iapply (depart_step PB K c 2 _ (by decide) _) $$ [Hf2 HO Hs2]
  · isplitr; · iexact HR
    isplitl [Hf2]; · iexact Hf2
    isplitl [HO] <;> iassumption
  iintro ⟨HO, Hy2, Hp2⟩
  iapply (depart_step PB K c 3 _ (by decide) _) $$ [Hf3 HO Hs3]
  · isplitr; · iexact HR
    isplitl [Hf3]; · iexact Hf3
    isplitl [HO] <;> iassumption
  iintro ⟨HO, Hy3, Hp3⟩
  try (simp -proj only [Prog.lift, Prog.bind_op, Prog.bind_ret, Prog.pure_eq_ret, Prog.bind, wp_ret]; imodintro)
  iapply (depart_step PB K c 4 _ (by decide) _) $$ [Hf4 HO Hs4]
  · isplitr; · iexact HR
    isplitl [Hf4]; · iexact Hf4
    isplitl [HO] <;> iassumption
  iintro ⟨HO, Hy4, Hp4⟩
  iapply (depart_step PB K c 5 _ (by decide) _) $$ [Hf5 HO Hs5]
  · isplitr; · iexact HR
    isplitl [Hf5]; · iexact Hf5
    isplitl [HO] <;> iassumption
  iintro ⟨HO, Hy5, Hp5⟩
  try (simp -proj only [Prog.lift, Prog.bind_op, Prog.bind_ret, Prog.pure_eq_ret, Prog.bind, wp_ret]; imodintro)
  iapply (depart_step PB K c 6 _ (by decide) _) $$ [Hf6 HO Hs6]
  · isplitr; · iexact HR
    isplitl [Hf6]; · iexact Hf6
    isplitl [HO] <;> iassumption
  iintro ⟨HO, Hy6, Hp6⟩
  try (simp -proj only [Prog.lift, Prog.bind_op, Prog.bind_ret, Prog.pure_eq_ret, Prog.bind, wp_ret]; imodintro)
  iapply Hk
  isplitl [HO]; · iexists _; iexact HO
  isplitl [Hzb]; · iexact Hzb
  isplitl [Hy0 Hy1 Hy2 Hy3 Hy4 Hy5 Hy6]
  · skip
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    iexact Hy6
  isplitl [Hz0 Hz1 Hz2 Hz3 Hz4 Hz5 Hz6]
  · skip
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HsA]; · iexact HsA
  isplitl [HsB]; · iexact HsB
  isplitl [Hx]; · iexact Hx
  isplitl [Hrw]; · iexact Hrw
  isplitl [Hi]; · iexact Hi
  isplitl [Hw]; · iexact Hw
  isplitl [Ho']; · iexact Ho'
  isplitl [Hb]; · iexists _; iexact Hb
  isplitl [Hg]; · iexists _; iexact Hg
  isplitl [Hwb]; · iexists _; iexact Hwb
  isplitl [Hst]; · iexists _; iexact Hst
  isplitl [Hp0 Hp1 Hp2 Hp3 Hp4 Hp5 Hp6]
  · iexists (PB c)
    iapply (Entails.of_eq ((part_split c (PB c)).trans (over7 _)).symm)
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    iexact Hp6
  · iexists (landed PB c)
    iapply (Entails.of_eq ((recv_split c (landed PB c)).trans (over7 _)).symm)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6

end Cert.MoE
-- ==== Proof.Launch.lean ====
/-
# The launch

Every device starts with its barrier semaphore and its own transfer semaphores at zero. Out of these the launch makes one
invariant per cell of the exchange, shared by all devices, and deals the duty tokens: each device gets the tokens of the
duties it pays, on the barriers and arrivals of the devices it talks to and on its own departures. What the devices owe
each other at launch becomes each device's credit on its own barrier and on its own seven arrivals.

`run_main` then says: from any memory with the semaphores at zero, the program terminates with the result array of each
device at `outAt`, its arguments unchanged and every semaphore back at zero. It holds for any float values.
-/
module

public import proofs.«01_k».proof.Proof.Body
public import Idealize.ShloMosaic.Lib.Pipeline.Quiescent

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-! ## The contents -/

/-- The tokens a device is given, -/
def xOf (c : Dev nD) : Vec F S2048x1024 .f32 := iblk m c 0 t0_0
/-- the router's weights, -/
def rwOf (c : Dev nD) : Vec F S1024x64 .f32 := iblk m c 1 t0_0
/-- the experts of each token, -/
def ixOf (c : Dev nD) : Vec F S2048x2 .i32 := iblk m c 2 t0_0
/-- and its own eight experts' weights. -/
def wOf (c : Dev nD) : Vec F S8x1024x1024 .f32 := m ((c : Thread nD τ).loc main_arg3)

/-- The send buffers when every chunk has been stored. -/
def parts : Parts F := fun c => partV (xbV (xOf m c)) (wbV (wOf m c)) (gateV c (xOf m c) (rwOf m c) (ixOf m c)) c

/-- The output block of a device. -/
def outAt (c : Dev nD) : Vec F S256x1024 .f32 :=
  outV (chunk (xbV (xOf m c)) (wbV (wOf m c)) (gateV c (xOf m c) (rwOf m c) (ixOf m c)) c) (landed (parts m) c)

/-! ## What a device holds before and after its run -/

/-- A device's own semaphores: two for its weights, seven of departures, seven of arrivals. -/
abbrev OI : Type := Bool ⊕ (Fin 7 ⊕ Fin 7)
/-- Which semaphores those are. -/
def osem : OI → SemLoc sig
  | .inl false => .dma (4 : DmaSem sig)
  | .inl true => .dma (5 : DmaSem sig)
  | .inr (.inl k) => .dma (sendS k)
  | .inr (.inr k) => .dma (recvS k)

/-- They are the ones the kernel brings. -/
theorem ownSemFacts : Pipeline.OwnSemFacts cfg0.spec osem := by decide

/-- The weights' two semaphores at zero. -/
def wSems (c : Dev nD) : sProp 𝕄 :=
  iprop(semVal ((c : Thread nD τ), SemLoc.dma (4 : DmaSem sig)) 0 ∗ semVal ((c : Thread nD τ), SemLoc.dma (5 : DmaSem sig)) 0)

/-- The tokens of the duties a device pays. -/
def payToks (c : Dev nD) : sProp 𝕄 :=
  iprop((bigSep Finset.univ fun k : Fin 7 => dutyTok ER (barCell (dst c k)) 0 (Fin.rev k))
    ∗ (bigSep Finset.univ fun k : Fin 7 => dutyTok ER (sendCell c k) 0 0)
    ∗ (bigSep Finset.univ fun k : Fin 7 => dutyTok ER (recvCell (dst c k) (Fin.rev k)) 0 0))

/-- A device's positions in its own cells' rounds. -/
def positions (c : Dev nD) : sProp 𝕄 := bigSep Finset.univ fun k : CI => atPos ER (kcell (c, k)) 0 ∅ 0

/-- What the exchange's set-up gives device `c`. -/
def ghost (c : Dev nD) : sProp 𝕄 := iprop(∃ K, records (parts m) K ∗ positions c ∗ payToks c ∗ wSems c)

/-- Its weights, in its own memory. -/
def wHeld (c : Dev nD) : sProp 𝕄 := iprop(((c : Thread nD τ).loc main_arg3) ↦{fullShare} wOf m c)

/-- What a device enters the kernel with. -/
def start (c : Dev nD) : sProp 𝕄 :=
  iprop(ghost m c ∗ (cred (tallyAt (barCell c) true 7) ∗ bigSep Finset.univ fun k : Fin 7 => cred (tallyAt (recvCell c k) true N))
    ∗ levAts L lv ∗ wHeld m c)

/-- What a device holds before the body, beside its windows. -/
def Φ₀ (c : Dev nD) : sProp 𝕄 := iprop(start m c ∗ Pipeline.scopedRest cfg0.spec c)
/-- What a device holds after the body, beside its windows. -/
def Φ₁ (c : Dev nD) : sProp 𝕄 := iprop((unscopedSems0 c ∗ wHeld m c) ∗ Pipeline.ownSems0 osem c ∗ Pipeline.scopedRest cfg0.spec c)

/-- What the windows hold before and after the body. -/
def dats (_ : Fin 1) (c : Dev nD) : Dat τ (Elt F) Bool ℕ UU ℕ cfg0 c where
  A w := (s₀ m ρ).mem ((cfg0.win w).arr.view.loc (c : Thread nD τ))
  after w _ := match w with
    | ⟨0, _⟩ => xOf m c
    | ⟨1, _⟩ => rwOf m c
    | ⟨2, _⟩ => ixOf m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Every window is owned whole. -/
theorem share_eq (c : Dev nD) (w : Fin cfg0.W) : (dats m ρ 0 c).share w = fullShare := by unfold Dat.share; split <;> rfl

/-- The tokens are in place before the body. -/
theorem before_x (c : Dev nD) (d) : (dats m ρ 0 c).before 0 t0_0 d = xOf m c :=
  ((dats m ρ 0 c).before_in_eq_fetched 0 rfl (fun _ => rfl) (fun _ _ _ => rfl) (fun t => by rw [fin_N0 t]; rfl) t0_0 d).trans rfl
/-- The router is in place before the body. -/
theorem before_rw (c : Dev nD) (d) : (dats m ρ 0 c).before 1 t0_0 d = rwOf m c :=
  ((dats m ρ 0 c).before_in_eq_fetched 1 rfl (fun _ => rfl) (fun _ _ _ => rfl) (fun t => by rw [fin_N0 t]; rfl) t0_0 d).trans rfl
/-- The choices are in place before the body. -/
theorem before_ix (c : Dev nD) (d) : (dats m ρ 0 c).before 2 t0_0 d = ixOf m c :=
  ((dats m ρ 0 c).before_in_eq_fetched 2 rfl (fun _ => rfl) (fun _ _ _ => rfl) (fun t => by rw [fin_N0 t]; rfl) t0_0 d).trans rfl

omit [FloatOps F] in
/-- Owning a buffer, spelled out. -/
theorem owns_buffer (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer owned with given contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The semaphores and the positions, listed -/

omit [FloatOps F] in
/-- The launch's own semaphores at zero, one by one. -/
theorem ownSems0_eq (c : Dev nD) : (Pipeline.ownSems0 (Ix := Bool) (Name := ℕ) (U := UU) (Lvl := ℕ) (Val := Elt F) (τ := τ) osem c : sProp 𝕄)
    = iprop(wSems c ∗ (bigSep Finset.univ fun k : Fin 7 => semVal (sendCell c k) 0) ∗ (bigSep Finset.univ fun k : Fin 7 => semVal (recvCell c k) 0)) := by
  unfold Pipeline.ownSems0 wSems
  rw [BI.bigSep_univ_sum, BI.bigSep_univ_sum, bigSep_univ_eq_bigSepL [false, true] (by decide) (by decide)]
  rfl
omit [FloatOps F] in
/-- The barrier at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- A product over the exchange's semaphores, by kind. -/
theorem over_CI (Φ : CI → sProp 𝕄) : bigSep Finset.univ Φ
    = iprop(Φ (.inl ()) ∗ (bigSep Finset.univ fun k : Fin 7 => Φ (.inr (.inl k))) ∗ (bigSep Finset.univ fun k : Fin 7 => Φ (.inr (.inr k)))) := by
  rw [BI.bigSep_univ_sum, BI.bigSep_univ_sum, bigSep_univ_eq_bigSepL [()] (by decide) (by decide)]
  rfl

/-! ## The run of the kernel -/

set_option maxRecDepth 4000 in
/-- What the body starts from, buffer by buffer. -/
def bodyPre' (c : Dev nD) : sProp 𝕄 :=
  iprop(Φ₀ m c ∗ (dats m ρ 0 c).owesAt false t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
/-- What the body ends with, buffer by buffer. -/
def bodyPost' (c : Dev nD) : sProp 𝕄 :=
  iprop(Φ₁ m c ∗ (dats m ρ 0 c).owesAt false t0_0.succ ∗ held c cc0_stg0_0 (xOf m c) ∗ held c cc0_stg1_0 (rwOf m c)
    ∗ held c cc0_stg2_0 (ixOf m c) ∗ held c cc0_stg3_0 (outAt m c))

/-- From what the device holds before the run to what the run takes. -/
theorem body_enter (c : Dev nD) : bodyPre' m ρ c ⊢ iprop(∃ K W fo fb fg fwb fst fp fr,
    bodyPre (parts m) K c W (xOf m c) (rwOf m c) (ixOf m c) fo (wOf m c) fb fg fwb fst fp fr) := by
  unfold bodyPre' Φ₀ start ghost positions payToks wSems wHeld
  rw [scopedRest0_eq, over_CI]
  iintro ⟨⟨⟨⟨%K, #HR, ⟨HaB, HaS, HaV⟩, ⟨HtB, HtS, HtV⟩, HsA, HsB⟩, ⟨HcB, HcV⟩, #HL, Hw⟩, ⟨⟨%fb, Hb⟩, ⟨%fg, Hg⟩, ⟨%fwb, Hwb⟩, ⟨%fst, Hst⟩, ⟨%fp, Hp⟩, ⟨%fr, Hr⟩⟩⟩,
    ⟨%W, %hW, HO⟩, ⟨%d0, %f0, %h0, Hx⟩, ⟨%d1, %f1, %h1, Hrw⟩, ⟨%d2, %f2, %h2, Hi⟩, ⟨%d3, %f3, %h3, Ho⟩⟩
  rw [before_x] at h0
  rw [before_rw] at h1
  rw [before_ix] at h2
  subst h0 h1 h2
  ihave Hp' := (Entails.of_eq (part_split c fp)) $$ Hp
  ihave Hr' := (Entails.of_eq (recv_split c fr)) $$ Hr
  iexists K; iexists W; iexists f3; iexists fb; iexists fg; iexists fwb; iexists fst; iexists fp; iexists fr
  unfold bodyPre forWaits forSends
  isplitr; · iexact HR
  isplitr; · iexact HL
  isplitl [HO]; · iexact HO
  isplitl [HtB]; · iexact HtB
  isplitl [Hr']; · iexact Hr'
  isplitl [HcV HaV HaS]
  · isplitl [HcV]; · iexact HcV
    isplitl [HaV]; · iexact HaV
    iexact HaS
  isplitl [HcB HaB HtS HtV Hp']
  · isplitl [HcB]; · iexact HcB
    isplitl [HaB]; · iexact HaB
    isplitl [HtS]; · iexact HtS
    isplitl [HtV]; · iexact HtV
    iexact Hp'
  isplitl [HsA]; · iexact HsA
  isplitl [HsB]; · iexact HsB
  isplitl [Hx]; · iexact Hx
  isplitl [Hrw]; · iexact Hrw
  isplitl [Hi]; · iexact Hi
  isplitl [Hw]; · iexact Hw
  isplitl [Ho]; · iexact Ho
  isplitl [Hb]; · iexact Hb
  isplitl [Hg]; · iexact Hg
  isplitl [Hwb]; · iexact Hwb
  iexact Hst

/-- From what the run ends with to what the device holds after it. -/
theorem body_leave (c : Dev nD) : bodyPost (parts m) c (xOf m c) (rwOf m c) (ixOf m c) (wOf m c) ⊢ bodyPost' m ρ c := by
  unfold bodyPost bodyPost' Φ₁ wHeld Dat.owesAt Pipeline.owesWithin
  rw [scopedRest0_eq, ownSems0_eq, unscopedSems0_eq, show (dats m ρ 0 c).owed t0_0.succ = 0 from rfl]
  unfold wSems
  iintro ⟨⟨%W, HO⟩, HzB, HzS, HzV, HsA, HsB, Hx, Hrw, Hi, Hw, Ho, Hb, Hg, Hwb, Hst, Hp, Hr⟩
  isplitl [HzB Hw HsA HsB HzS HzV Hb Hg Hwb Hst Hp Hr]
  · isplitl [HzB Hw]
    · isplitl [HzB]; · iexact HzB
      iexact Hw
    isplitl [HsA HsB HzS HzV]
    · isplitl [HsA HsB]
      · isplitl [HsA]; · iexact HsA
        iexact HsB
      isplitl [HzS]; · iexact HzS
      iexact HzV
    isplitl [Hb]; · iexact Hb
    isplitl [Hg]; · iexact Hg
    isplitl [Hwb]; · iexact Hwb
    isplitl [Hst]; · iexact Hst
    isplitl [Hp]; · iexact Hp
    iexact Hr
  isplitl [HO]
  · iexists W
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hi]
  · iexists _; isplitr; · (ipureintro; rfl)
    iexact Hi
  iexists _; isplitr; · (ipureintro; rfl)
  iexact Ho

set_option maxRecDepth 65536 in
/-- The kernel's run on device `c`, in the form the launch takes it. -/
theorem body_obligation (c : Dev nD) : BodyObligation (dats (F := F) m ρ 0 c) (defs₀ (F := F)) 𝒱₀ false Set.univ := fun t => by
  rw [fin_N0 t]
  rw [bigSep_W0, bigSep_W0]
  simp only [owns_buffer]
  show bodyPre' m ρ c ⊢ wp frame (wpE (defs₀ (F := F)) 𝒱₀ c none) Set.univ
    (cc0_body (F := F) (Memref.whole cc0_stg0_0) (Memref.isWhole_whole _) (Memref.whole cc0_stg1_0) (Memref.isWhole_whole _)
            (Memref.whole cc0_stg2_0) (Memref.isWhole_whole _) (Memref.whole main_arg3) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8) (fun _ => bodyPost' m ρ c)
  iintro H
  ihave H' := (body_enter m ρ c) $$ H
  icases H' with ⟨%K, %W, %fo, %fb, %fg, %fwb, %fst, %fp, %fr, H⟩
  iapply (body_run (parts m) K c W (fun _ => bodyPost' m ρ c) (xOf m c) (rwOf m c) (ixOf m c) fo (wOf m c) fb fg fwb fst fp fr rfl)
  isplitl [H]; · iexact H
  iintro H
  iapply (body_leave m ρ c)
  iexact H

/-! ## The set-up of the exchange -/

/-- Different names are different semaphores. -/
theorem csem_injective : Function.Injective csem := by
  rintro (_ | j | j) (_ | k | k) h
  · rfl
  · exact absurd h.symm (dma_ne_bar _)
  · exact absurd h.symm (dma_ne_bar _)
  · exact absurd h (dma_ne_bar _)
  · exact congrArg (fun k => Sum.inr (Sum.inl k)) (sendS_inj (SemLoc.dma.inj h))
  · exact absurd (SemLoc.dma.inj h) (sendS_ne_recvS j k)
  · exact absurd h (dma_ne_bar _)
  · exact absurd (SemLoc.dma.inj h).symm (sendS_ne_recvS k j)
  · exact congrArg (fun k => Sum.inr (Sum.inr k)) (recvS_inj (SemLoc.dma.inj h))

/-- Different names on different devices are different semaphores. -/
theorem kcell_injective : Function.Injective kcell := by
  rintro ⟨c, i⟩ ⟨d, j⟩ h
  have hc : c = d := congrArg (fun g : GSem nD τ sig => g.1.1) h
  have hi : i = j := csem_injective (congrArg Prod.snd h)
  rw [hc, hi]

/-- The cells of the exchange. -/
def xCells : Finset (GSem nD τ sig) := Finset.univ.map ⟨kcell, kcell_injective⟩

/-- A duty of one of a device's cells: one of the seven on its barrier, or the one on a transfer's cell. -/
abbrev TI : Type := Fin 7 ⊕ (Fin 7 ⊕ Fin 7)
/-- The token of a duty. -/
def tokOf : Dev nD × TI → GSem nD τ sig × ℕ × Fin 7
  | (c, .inl j) => (barCell c, 0, j)
  | (c, .inr (.inl k)) => (sendCell c k, 0, 0)
  | (c, .inr (.inr k)) => (recvCell c k, 0, 0)
/-- Different duties have different tokens. -/
theorem tokOf_injective : Function.Injective tokOf := by
  rintro ⟨c, i⟩ ⟨d, j⟩ h
  have hc : c = d := by
    have := congrArg (fun x : GSem nD τ sig × ℕ × Fin 7 => x.1.1.1) h
    rcases i with i | i | i <;> rcases j with j | j | j <;> exact this
  subst hc
  have h1 := congrArg (fun x : GSem nD τ sig × ℕ × Fin 7 => x.1.2) h
  have h2 := congrArg (fun x : GSem nD τ sig × ℕ × Fin 7 => x.2.2) h
  rcases i with i | i | i <;> rcases j with j | j | j
  · have : i = j := h2
    rw [this]
  · exact absurd h1.symm (dma_ne_bar _)
  · exact absurd h1.symm (dma_ne_bar _)
  · exact absurd h1 (dma_ne_bar _)
  · rw [sendS_inj (SemLoc.dma.inj h1)]
  · exact absurd (SemLoc.dma.inj h1) (sendS_ne_recvS i j)
  · exact absurd h1 (dma_ne_bar _)
  · exact absurd (SemLoc.dma.inj h1).symm (sendS_ne_recvS j i)
  · rw [recvS_inj (SemLoc.dma.inj h1)]
/-- All the tokens of the exchange. -/
def xToks : Finset (GSem nD τ sig × ℕ × Fin 7) := Finset.univ.map ⟨tokOf, tokOf_injective⟩

/-- The ghost state at the launch. -/
def u₀ : UU := (initOf (Pipeline.cells cfgs cellOf_inj) (Pipeline.launchToks cfgs cellOf_inj), (initOf xCells xToks, 1))

/-- The tokens of the duties on device `c`'s own cells. -/
def mintedToks (c : Dev nD) : sProp 𝕄 :=
  iprop((bigSep Finset.univ fun j : Fin 7 => dutyTok ER (barCell c) 0 j) ∗ (bigSep Finset.univ fun k : Fin 7 => dutyTok ER (sendCell c k) 0 0)
    ∗ (bigSep Finset.univ fun k : Fin 7 => dutyTok ER (recvCell c k) 0 0))

/-- What device `c` is dealt before the invariants are made. -/
def dealt (c : Dev nD) : sProp 𝕄 :=
  iprop((bigSep Finset.univ fun k : CI => roundState ER (sched (parts m)) (kcell (c, k)) 0)
    ∗ ((bigSep Finset.univ fun k : CI => atPos ER (kcell (c, k)) 0 ∅ 0) ∗ (bigSep Finset.univ fun k : CI => reached ER (kcell (c, k)) 0)) ∗ mintedToks c)

omit [FloatOps F] in
/-- The two parts of the ghost state. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

/-- The tokens dealt out to the devices. -/
theorem deal : BI.own (ER (initOf xCells xToks)) ⊢ (|==> bigSep Finset.univ (dealt m) : sProp 𝕄) := by
  have hX (Φ : GSem nD τ sig → sProp 𝕄) : bigSep xCells Φ = bigSep Finset.univ fun c : Dev nD => bigSep Finset.univ fun k : CI => Φ (kcell (c, k)) := by
    unfold xCells; rw [BI.bigSep_map, BI.bigSep_univ_prod]; rfl
  have hT : bigSep xToks (fun x => (dutyTok ER x.1 x.2.1 x.2.2 : sProp 𝕄)) = bigSep Finset.univ fun c : Dev nD => mintedToks c := by
    unfold xToks; rw [BI.bigSep_map, BI.bigSep_univ_prod]
    refine bigSep_congr fun c _ => ?_
    unfold mintedToks
    rw [BI.bigSep_univ_sum, BI.bigSep_univ_sum]; rfl
  iintro HX
  imod (Rounds.fund ER (sched (parts m)) xCells xToks) $$ HX with ⟨Hst, Hr, Hat, Htok⟩
  imodintro
  ihave Hst' := (Entails.of_eq (hX fun g => roundState ER (sched (parts m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The exchange's semaphores of one device, at zero, put under invariants. -/
theorem device_setup (c : Dev nD) :
    iprop(Pipeline.ownSems0 (Ix := Bool) (Name := ℕ) (U := UU) (Lvl := ℕ) (Val := Elt F) (τ := τ) osem c ∗ unscopedSems0 c ∗ dealt m c)
      ⊢ |={Set.univ}=> iprop((bigSep Finset.univ fun k : CI => iprop(∃ κ : ℕ, cellInv ER (sched (parts m)) κ (kcell (c, k))))
          ∗ (bigSep Finset.univ fun k : CI => reached ER (kcell (c, k)) 0) ∗ (positions c ∗ wSems c) ∗ mintedToks c) := by
  unfold dealt
  rw [ownSems0_eq, unscopedSems0_eq]
  iintro ⟨⟨HsW, HzS, HzV⟩, HzB, Hst, ⟨Hat, Hr⟩, Htok⟩
  imod (show iprop((bigSep Finset.univ fun k : CI => semVal (kcell (c, k)) 0) ∗ bigSep Finset.univ fun k : CI => roundState ER (sched (parts m)) (kcell (c, k)) 0)
      ⊢ (|={Set.univ}=> bigSep Finset.univ fun k : CI => iprop(∃ κ : ℕ, cellInv ER (sched (parts m)) κ (kcell (c, k))) : sProp 𝕄) from by
        rw [← bigSep_sep']
        exact (bigSep_mono fun k _ => (Rounds.body_intro ER (sched (parts m)) (kcell (c, k))).trans inv_alloc).trans (bigSep_fupd _ _)) $$ [HzB HzS HzV Hst] with Hinv
  · isplitr [Hst]
    · rw [over_CI]
      isplitl [HzB]; · iexact HzB
      isplitl [HzS]; · iexact HzS
      iexact HzV
    iexact Hst
  imodintro
  isplitl [Hinv]; · iexact Hinv
  isplitl [Hr]; · iexact Hr
  isplitl [Hat HsW]
  · isplitl [Hat]; · unfold positions; iexact Hat
    iexact HsW
  iexact Htok

/-- The exchange's own inverse: the partner of a device for a transfer, and that transfer seen from the partner. -/
def partner : Dev nD × Fin 7 ≃ Dev nD × Fin 7 :=
  ⟨fun p => (dst p.1 p.2, Fin.rev p.2), fun p => (dst p.1 p.2, Fin.rev p.2),
    fun p => Prod.ext (dst_dst_rev p.1 p.2) (Fin.rev_rev p.2), fun p => Prod.ext (dst_dst_rev p.1 p.2) (Fin.rev_rev p.2)⟩

omit [FloatOps F] in
/-- The barrier and arrival tokens, each moved to the device that pays the duty. -/
theorem toks_moved : (bigSep Finset.univ fun c : Dev nD => (mintedToks c : sProp 𝕄)) ⊢ bigSep Finset.univ fun c : Dev nD => payToks c := by
  have move (T : Dev nD × Fin 7 → sProp 𝕄) : (bigSep Finset.univ fun c : Dev nD => bigSep Finset.univ fun k : Fin 7 => T (c, k))
      = bigSep Finset.univ fun c : Dev nD => bigSep Finset.univ fun k : Fin 7 => T (dst c k, Fin.rev k) := by
    rw [← BI.bigSep_univ_prod, BI.bigSep_univ_equiv partner, BI.bigSep_univ_prod]; rfl
  unfold mintedToks payToks
  rw [bigSep_sep', bigSep_sep', bigSep_sep', bigSep_sep']
  rw [move fun p => dutyTok ER (barCell p.1) 0 p.2, move fun p => dutyTok ER (recvCell p.1 p.2) 0 0]

/-- A device's share of the exchange. -/
theorem ghost_intro (K : Dev nD × CI → ℕ) (c : Dev nD) : iprop(records (parts m) K ∗ (positions c ∗ wSems c) ∗ payToks c) ⊢ ghost m c := by
  unfold ghost
  iintro ⟨#HR, ⟨Hat, HsW⟩, Ht⟩
  iexists K
  isplitr; · iexact HR
  isplitl [Hat]; · iexact Hat
  isplitl [Ht]; · iexact Ht
  iexact HsW

/-- The shares regrouped by device. -/
theorem regroup :
    (bigSep Finset.univ fun c : Dev nD => iprop((bigSep Finset.univ fun k : CI => iprop(∃ κ : ℕ, cellInv ER (sched (parts m)) κ (kcell (c, k))))
          ∗ (bigSep Finset.univ fun k : CI => reached ER (kcell (c, k)) 0) ∗ (positions c ∗ wSems c) ∗ mintedToks c) : sProp 𝕄)
      ⊢ bigSep Finset.univ (ghost m) := by
  rw [bigSep_sep', bigSep_sep', bigSep_sep' (Φ := fun c : Dev nD => iprop(positions c ∗ wSems c)),
    ← BI.bigSep_univ_prod (fun ck : Dev nD × CI => iprop(∃ κ : ℕ, cellInv ER (sched (parts m)) κ (kcell ck))),
    ← BI.bigSep_univ_prod (fun ck : Dev nD × CI => (reached ER (kcell ck) 0 : sProp 𝕄))]
  iintro ⟨HI, #HR, Hat, Htok⟩
  ihave HK := (BI.bigSep_exists_pi Finset.univ (fun (ck : Dev nD × CI) (κ : ℕ) => (cellInv ER (sched (parts m)) κ (kcell ck) : sProp 𝕄))) $$ HI
  icases HK with ⟨%K, #HI⟩
  ihave Htk := (toks_moved (F := F)) $$ Htok
  iapply (bigSep_with_persistent (R := records (parts m) K) fun c _ => ghost_intro m K c)
  isplitr
  · unfold records; isplitl; · iexact HI
    iexact HR
  · iapply (Entails.of_eq (bigSep_sep' Finset.univ (fun c : Dev nD => iprop(positions c ∗ wSems c)) payToks).symm)
    isplitl [Hat]; · iexact Hat
    iexact Htk

/-- The set-up of all devices at once. -/
theorem setup : (bigSep Finset.univ fun c => iprop(Pipeline.ownSems0 (Ix := Bool) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => device_setup m c).trans (bigSep_fupd _ _)).trans (BI.fupd_mono (regroup m))

/-! ## The credits at launch -/

/-- A barrier is no arrival. -/
theorem bar_ne_recv (c d : Dev nD) (k : Fin 7) : barCell c ≠ recvCell d k := fun h => dma_ne_bar _ (congrArg Prod.snd h).symm

/-- What all devices together owe: seven units to every barrier, one transfer to every arrival. -/
theorem owed_total (g : GSem nD τ sig) (u : Bool) :
    (∑ d : Dev nD, O₀ d g u) = (∑ p : Dev nD × Fin 7, tallyAt (recvCell p.1 p.2) true N g u) + ∑ p : Dev nD × Fin 7, tallyAt (barCell p.1) true 1 g u := by
  have h (d : Dev nD) : O₀ d g u = (∑ k : Fin 7, tallyAt (recvCell (dst d k) (Fin.rev k)) true N g u) + ∑ k : Fin 7, tallyAt (barCell (dst d k)) true 1 g u := by
    unfold O₀ Os Ob
    simp only [Nat.zero_le, if_true]
    rw [Pi.add_apply, Finsupp.add_apply, sum_apply, sum_apply]
  rw [Finset.sum_congr rfl fun d _ => h d, Finset.sum_add_distrib,
    ← Equiv.sum_comp partner (fun p => tallyAt (recvCell p.1 p.2) true N g u), ← Equiv.sum_comp partner (fun p => tallyAt (barCell p.1) true 1 g u),
    Fintype.sum_prod_type, Fintype.sum_prod_type]
  rfl

/-- What is owed into a landing slot, at the launch. -/
theorem launch_recv (c : Dev nD) (k : Fin 7) :
    tallyOn (recvCell c k) (launchCredit (Pipeline.owing O₀) 0 (recvCell c k)) = (tallyAt (recvCell c k) true N : CellTallies nD τ sig Bool) := by
  unfold tallyAt
  refine congrArg _ (Finsupp.ext fun u => ?_)
  rw [Pipeline.launchCredit_owing, owed_total, Finset.sum_eq_single (c, k), Finset.sum_eq_zero, add_zero]
  · show tallyAt (recvCell c k) true N (recvCell c k) u = _
    rw [tallyAt_apply, Finsupp.single_apply]
    by_cases h : u = true
    · subst h; simp
    · rw [if_neg fun h' => h h'.2, if_neg fun h' => h h'.symm]
  · rintro ⟨d, j⟩ -
    exact by rw [tallyAt_ne_cell fun h => bar_ne_recv _ _ _ h.symm]; rfl
  · rintro ⟨d, j⟩ - hne
    rw [tallyAt_ne_cell]
    · rfl
    · intro h
      have e : ((c, Sum.inr (Sum.inr k)) : Dev nD × CI) = (d, Sum.inr (Sum.inr j)) := kcell_injective h
      exact hne (Prod.ext (congrArg Prod.fst e).symm (Sum.inr.inj (Sum.inr.inj (congrArg Prod.snd e))).symm)
  · exact fun h => absurd (Finset.mem_univ _) h

/-- What is owed to a barrier, at the launch. -/
theorem launch_bar (c : Dev nD) :
    tallyOn (barCell c) (launchCredit (Pipeline.owing O₀) 0 (barCell c)) = (tallyAt (barCell c) true 7 : CellTallies nD τ sig Bool) := by
  unfold tallyAt
  refine congrArg _ (Finsupp.ext fun u => ?_)
  rw [Pipeline.launchCredit_owing, owed_total, Finset.sum_eq_zero, zero_add, Fintype.sum_prod_type, Finset.sum_eq_single c]
  · show (∑ k : Fin 7, tallyAt (barCell c) true 1 (barCell c) u) = _
    rw [Finset.sum_const, tallyAt_apply, Finsupp.single_apply]
    by_cases h : u = true
    · subst h; simp
    · rw [if_neg fun h' => h h'.2, if_neg fun h' => h h'.symm]; rfl
  · intro d _ hne
    refine Finset.sum_eq_zero fun k _ => ?_
    rw [tallyAt_ne_cell]
    · rfl
    · intro h
      have e : ((c, Sum.inl ()) : Dev nD × CI) = (d, Sum.inl ()) := kcell_injective h
      exact hne (congrArg Prod.fst e).symm
  · exact fun h => absurd (Finset.mem_univ _) h
  · rintro ⟨d, j⟩ -
    exact by rw [tallyAt_ne_cell (bar_ne_recv _ _ _)]; rfl

/-- The cells on which a device has credit at launch. -/
def credSem : Unit ⊕ Fin 7 → SemLoc sig
  | .inl _ => .reg barS
  | .inr k => .dma (recvS k)
/-- Different credits are different semaphores. -/
theorem credSem_injective : Function.Injective credSem := by
  rintro (_ | j) (_ | k) h
  · rfl
  · exact absurd h.symm (dma_ne_bar _)
  · exact absurd h (dma_ne_bar _)
  · rw [recvS_inj (SemLoc.dma.inj h)]

omit [FloatOps F] in
/-- The credits a device starts with. -/
theorem creds (c : Dev nD) :
    (Pipeline.launchCred O₀ c : sProp 𝕄) ⊢ iprop(cred (tallyAt (barCell c) true 7) ∗ bigSep Finset.univ fun k : Fin 7 => cred (tallyAt (recvCell c k) true N)) := by
  unfold Pipeline.launchCred
  refine (BI.bigSep_subset (Finset.subset_univ (Finset.univ.map ⟨credSem, credSem_injective⟩))).trans ?_
  rw [BI.bigSep_map, BI.bigSep_univ_sum, bigSep_univ_eq_bigSepL [()] (by decide) (by decide)]
  have hb : (cred (tallyOn (barCell c) (launchCredit (Pipeline.owing O₀) 0 (barCell c))) : sProp 𝕄) = cred (tallyAt (barCell c) true 7) := by rw [launch_bar]
  have hr (k : Fin 7) : (cred (tallyOn (recvCell c k) (launchCredit (Pipeline.owing O₀) 0 (recvCell c k))) : sProp 𝕄) = cred (tallyAt (recvCell c k) true N) := by rw [launch_recv]
  exact Entails.of_eq (congrArg₂ (fun A B : sProp 𝕄 => iprop(A ∗ B)) hb (bigSep_congr fun k _ => hr k))

/-! ## The remaining conditions of the launch -/

/-- A device's start, put together. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start wHeld
  isplitl
  · isplitl [HG]; · iexact HG
    isplitl [Hc]; · iexact Hc
    isplitl [Hlev]; · iexact Hlev
    iexact Hw
  · iempintro

/-- Into the body from the launch. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

/-- Out of the body to the end. -/
theorem leave (c : Dev nD) :
    (dats m ρ 0 c).Φ (Fin.last cfg0.N) ⊢ iprop((unscopedSems0 c ∗ wHeld m c) ∗ Pipeline.ownSems0 osem c ∗ Pipeline.scopedRest cfg0.spec c) :=
  Entails.of_eq rfl

/-- The pipeline's own waits are within the levels. -/
theorem waits (c : Dev nD) : (levAts L lv : sProp 𝕄) ⊢ Pipeline.cellsWaits cfgs (dats m ρ) false 0 c :=
  Pipeline.cellsWaits_intro cfgs (dats m ρ) false 0 c fun w s t => by
    rcases t with ⟨_ | _, ht⟩
    · exact mayWait_own c 0 0 _
    · rw [show (dats m ρ 0 c).owed ⟨_ + 1, ht⟩ = 0 from rfl, MayWait_zero]; iintro -; iempintro

/-- The final contents of the windows' arrays. -/
def finalA (c : Dev nD) (w : Fin cfg0.W) : Buf (Elt F) ((cfg0.win w).arr.view.loc (c : Thread nD τ)) := (dats m ρ 0 c).arrAt w cfg0.N

/-- What holds at the end, on every device: the windows' arrays as the run leaves them and the weights as they were. -/
def AtEnd (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg3) = m ((c : Thread nD τ).loc main_arg3)

/-- What a device's final resources say of the memory. -/
theorem read_end (c : Dev nD) (s' : Phys nD τ sig (Elt F)) :
    iprop((unscopedSems0 c ∗ wHeld m c) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg3) = wOf m c⌝ ∗ (SI s' : sProp 𝕄)) := by
  unfold wHeld
  iintro ⟨⟨Hu, Hw⟩, -, HSI⟩
  icombine HSI Hw gives %hw
  ihave %hu := (tcUnscoped_read c s') $$ [Hu HSI]
  · isplitl [Hu] <;> iassumption
  imodintro
  isplitr; · ipureintro; exact ⟨hu, funext fun i => hw i (Finset.mem_univ i)⟩
  iexact HSI

set_option maxRecDepth 8000 in
/-- From any memory with the semaphores at zero, the program terminates, and every final state is as `AtEnd` says with
    every semaphore at zero again. -/
theorem run_main : θ_run defs (onTc (τ := τ) (main (F := F))) (s₀ m ρ) (fun r => AtEnd m ρ r.2 ∧ r.2.sem = fun _ => 0) :=
  Pipeline.θ_run_region_owing_glob_pf (fun p => (cfgs p).toPCfg) (fun p => (cfgs p).toPCfg_adm) (dats m ρ) false cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ghost m) (u₀ := u₀)
    (hu₀ := by
      unfold u₀
      iintro Hu
      ihave H := (ownU_split _ _) $$ Hu
      icases H with ⟨HP, HX⟩
      imod (deal m) $$ HX with HG
      imodintro
      isplitl [HP] <;> iassumption)
    (hglob := setup m)
    (hA := fun _ _ => rfl) (hpf := fun _ k => k.elim0)
    (X := start m) (Y := fun c => iprop(unscopedSems0 c ∗ wHeld m c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg3) = wOf m c)
    (hY := read_end m)
    (hQ := fun _ h hs => ⟨fun c => ⟨fun w => (h c).1 w, (h c).2.2.2⟩, sem_eq_zero hs fun c => (h c).2.2.1⟩)

end Cert.MoE

end
-- ==== Proof.Frames.lean ====
/-
# The frames

What the run leaves in the arguments' arrays and in the result's, on every device, and the frames of the three programs:
the arguments end as they were and every semaphore is at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.MoE

open Cert.KernelIdeal Cert.KernelIdeal.Gen
open Idealize.ShloMosaic Idealize.ShloMosaic.TcCoe Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The windows' blocks are the whole arrays -/

/-- The window of the tokens is the whole array. -/
theorem whole_x (f : (main_arg0 : Ref sig .tc).ty.Contents (Elt F)) : (win0_0.blk (0 : Fin 1)).view.read (Elt F) f = f := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) f
/-- The window of the router is the whole array. -/
theorem whole_rw (f : (main_arg1 : Ref sig .tc).ty.Contents (Elt F)) : (win0_1.blk (0 : Fin 1)).view.read (Elt F) f = f := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) f
/-- The window of the choices is the whole array. -/
theorem whole_ix (f : (main_arg2 : Ref sig .tc).ty.Contents (Elt F)) : (win0_2.blk (0 : Fin 1)).view.read (Elt F) f = f := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) f
/-- The window of the output is the whole array. -/
theorem whole_out (f : (main_v1 : Ref sig .tc).ty.Contents (Elt F)) : (win0_3.blk (0 : Fin 1)).view.read (Elt F) f = f := by
  have hz : (fun a => (win0_3.index (0 : Fin 1)) a * main_v1.ty.shape.size a) = fun _ => 0 := funext fun a => by fin_cases a <;> decide
  exact Memref.read_access_unit_zero (Elt F) main_v1 hz (fun a => by fin_cases a <;> decide) f

/-- The tokens a device reads are its argument. -/
theorem xOf_eq (c : Dev nD) : xOf m c = m ((c : Thread nD τ).loc main_arg0) :=
  whole_x (m ((c : Thread nD τ).loc main_arg0))
/-- The router a device reads is its argument. -/
theorem rwOf_eq (c : Dev nD) : rwOf m c = m ((c : Thread nD τ).loc main_arg1) :=
  whole_rw (m ((c : Thread nD τ).loc main_arg1))
/-- The choices a device reads are its argument. -/
theorem ixOf_eq (c : Dev nD) : ixOf m c = m ((c : Thread nD τ).loc main_arg2) :=
  whole_ix (m ((c : Thread nD τ).loc main_arg2))

/-! ## The arrays at the end -/

/-- The tokens end as they were. -/
theorem final_x (c : Dev nD) : finalA m ρ c 0 = m ((c : Thread nD τ).loc main_arg0) := (dats m ρ 0 c).arrAt_in 0 rfl _
/-- The router ends as it was. -/
theorem final_rw (c : Dev nD) : finalA m ρ c 1 = m ((c : Thread nD τ).loc main_arg1) := (dats m ρ 0 c).arrAt_in 1 rfl _
/-- The choices end as they were. -/
theorem final_ix (c : Dev nD) : finalA m ρ c 2 = m ((c : Thread nD τ).loc main_arg2) := (dats m ρ 0 c).arrAt_in 2 rfl _

/-- The result's array ends as the body leaves its one block. -/
theorem final_out (c : Dev nD) : finalA m ρ c 3 = outAt m c := by
  have hr : (win0_3.blk (0 : Fin 1)).view.read (Elt F) (finalA m ρ c 3) = finalA m ρ c 3 := whole_out _
  refine hr.symm.trans ?_
  unfold finalA
  rw [show cfg0.N = ((0 : Fin 1) : Fin cfg0.N).val + 1 from rfl, (dats m ρ 0 c).arrAt_succ (3 : Fin 4) (0 : Fin 1),
    show (cfg0.win (3 : Fin 4)).flush (0 : Fin 1) = true from by decide, if_pos rfl]
  exact View.read_write_univ _ _

/-- What the run leaves: the result's array at `outAt`, the arguments' arrays as they were. -/
theorem run_values : θ_run defs (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 :=
  (θ_run defs _ _).mono (fun _ h => ⟨fun c => ⟨((h.1 c).1 3).trans (final_out m ρ c), ((h.1 c).1 0).trans (final_x m ρ c),
    ((h.1 c).1 1).trans (final_rw m ρ c), ((h.1 c).1 2).trans (final_ix m ρ c), (h.1 c).2⟩, h.2⟩) (run_main m ρ)

/-! ## The frames -/

/-- The kernel as printed on bit patterns and as printed for extended reals have the same body, -/
theorem body_same : Cert.Kernel.defs₀ (F := Bits) = Cert.KernelIdeal.defs₀ (F := Bits) := by
  unfold Cert.Kernel.defs₀ Cert.KernelIdeal.defs₀
  refine congrArg Defs.onTc (funext fun l => funext fun a => ?_)
  rcases l with ⟨_ | _, h⟩
  · rfl
  · exact absurd h (by omega)

/-- and so are the same program. -/
theorem program_same : Cert.Kernel.defs (F := Bits) = Cert.KernelIdeal.defs (F := Bits) :=
  congrArg (Pipeline.defs Cert.KernelIdeal.pcfgs) body_same

/-- The kernel's frame, on bit patterns. -/
theorem frame_kernel : Cert.quiescent_Kernel := by
  intro m ρ _
  refine (congrArg (fun D => θ_run D (onTc (τ := τ) (main (F := Bits))) ⟨m, fun _ => 0, ρ⟩ _) program_same).mpr ?_
  exact (θ_run Cert.KernelIdeal.defs _ _).mono (fun _ h => ⟨fun c => (h.1 c).2, h.2⟩) (run_values (F := Bits) m ρ)

/-- The kernel's frame, over the extended reals. -/
theorem frame_kernelIdeal : Cert.quiescent_KernelIdeal := fun m ρ _ =>
  (θ_run Cert.KernelIdeal.defs _ _).mono (fun _ h => ⟨fun c => (h.1 c).2, h.2⟩) (run_values (F := Ideal) m ρ)

/-- The reference declares no semaphore, so its counters are at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoE

end
-- ==== Proof.Sums.lean ====
module
public import Idealize.ShloMosaic.Lib.Pointwise.Tactic
public import Idealize.ShloMosaic.Lib.Pointwise
/-! Sums over the sixty-four experts in the extended reals, with an expert named by a 32-bit word. -/
@[expose] public section
noncomputable section
namespace Cert.MoE
open Idealize.ShloMosaic

/-- The number of an expert, as a 32-bit word. -/
def num (e : Fin 64) : BitVec 32 := BitVec.ofNat 32 e.val

/-- Different experts have different words. -/
theorem num_inj {e e' : Fin 64} (h : num e = num e') : e = e' := by
  have h' := congrArg BitVec.toNat h
  simp only [num, BitVec.toNat_ofNat] at h'
  exact Fin.ext (by omega)

/-- The value of `f` at the expert the word `w` names, and zero if it names none: the kernel's masked sum. -/
def pick (f : Fin 64 → EReal) (w : BitVec 32) : EReal := ∑ e : Fin 64, if num e = w then f e else 0

/-- A word that names an expert picks its value. -/
theorem pick_num (f : Fin 64 → EReal) (e : Fin 64) : pick f (num e) = f e := by
  unfold pick
  rw [Finset.sum_eq_single e (fun e' _ he => if_neg fun h => he (num_inj h)) (fun h => absurd (Finset.mem_univ _) h), if_pos rfl]

/-- A word that names no expert picks zero. -/
theorem pick_none (f : Fin 64 → EReal) (w : BitVec 32) (h : ∀ e, num e ≠ w) : pick f w = 0 :=
  Finset.sum_eq_zero fun e _ => if_neg (h e)

/-- A number counted twice, times another, is the product counted twice, infinities included. -/
theorem double_mul (a y : EReal) : (a + a) * y = a * y + a * y := by
  rcases le_total 0 a with h | h
  · exact EReal.right_distrib_of_nonneg h h
  · have h' : 0 ≤ -a := EReal.neg_nonneg.mpr h
    have e := EReal.right_distrib_of_nonneg (c := -y) h' h'
    have e1 : a + a = -(-a + -a) := by
      induction a using EReal.rec
      · rfl
      · norm_cast; ring
      · exact absurd h (by simp)
    rw [e1, neg_mul_comm, e, neg_mul_neg]

/-- THE GATED SUM: the sum over all the experts, each gate made of the two chosen experts' weights, is the two
    chosen experts' outputs, weighted. When the two choices agree their weights do. -/
theorem gated_sum (w0 w1 : BitVec 32) (a0 a1 : EReal) (Y : Fin 64 → EReal) (h : w0 = w1 → a0 = a1) :
    ∑ e : Fin 64, ((if num e = w0 then a0 else 0) + (if num e = w1 then a1 else 0)) * Y e = a0 * pick Y w0 + a1 * pick Y w1 := by
  have one : ∀ (w : BitVec 32) (a : EReal), a * pick Y w = ∑ e : Fin 64, (if num e = w then a else 0) * Y e := fun w a => by
    by_cases hw : ∃ e, num e = w
    · obtain ⟨e, rfl⟩ := hw
      rw [pick_num, Finset.sum_eq_single e (fun e' _ he => by rw [if_neg fun h => he (num_inj h), zero_mul]) (fun h => absurd (Finset.mem_univ _) h), if_pos rfl]
    · have hw' : ∀ e, num e ≠ w := fun e he => hw ⟨e, he⟩
      rw [pick_none Y w hw', mul_zero, Finset.sum_eq_zero fun e _ => by rw [if_neg (hw' e), zero_mul]]
  rw [one, one, ← Finset.sum_add_distrib]
  refine Finset.sum_congr rfl fun e _ => ?_
  by_cases h0 : num e = w0 <;> by_cases h1 : num e = w1
  · rw [if_pos h0, if_pos h1, h (h0.symm.trans h1), double_mul]
  · rw [if_neg h1, add_zero, zero_mul, add_zero]
  · rw [if_neg h0, zero_add, zero_mul, zero_add]
  · rw [if_neg h0, if_neg h1, zero_mul, add_zero, zero_mul]

/-- Expert `j` of device `d`, among all. -/
def expertOf (d j : Fin 8) : Fin 64 := ⟨8 * d.val + j.val, by omega⟩

/-- The sum over the devices of the sums over their experts is the sum over all the experts. -/
theorem sum_devices (f : Fin 64 → EReal) : ∑ d : Fin 8, ∑ j : Fin 8, f (expertOf d j) = ∑ e : Fin 64, f e := by
  rw [← Finset.sum_product', Finset.univ_product_univ]
  refine (Fintype.sum_equiv (finProdFinEquiv (m := 8) (n := 8)) _ f fun p => ?_)
  refine congrArg f (Fin.ext ?_)
  show 8 * p.1.val + p.2.val = p.2.val + 8 * p.1.val
  omega

end Cert.MoE
end
-- ==== Proof.Kern.lean ====
module
public import proofs.«01_k».proof.Proof.Launch
public import proofs.«01_k».proof.Proof.Sums
/-! The kernel's values at an index, over the extended reals. -/
@[expose] public section
set_option maxRecDepth 16384
noncomputable section
namespace Cert.MoE
open Cert.KernelIdeal Cert.KernelIdeal.Gen
open Idealize.ShloMosaic

/-- One expert more: its gate times its output. -/
theorem pay16_at (acc : FVec Ideal S256x1024 .f32) (x : Vec Ideal S256x1024 .bf16) (w : Vec Ideal S1x1024x1024 .bf16) (g : Vec Ideal S256x1 .f32)
    (r : Fin 256) (h : Fin 1024) :
    k0_pay16 acc x w g (ix2 r h) = acc (ix2 r h) + g (ix2 r 0) * ∑ k : Fin 1024, x (ix2 r k) * w (ix3 0 k h) := by
  pointwise [k0_pay16]

/-- The sum starts at zero. -/
theorem pay14_at (r : Fin 256) (h : Fin 1024) : k0_pay14 (F := Ideal) (ix2 r h) = (0 : EReal) := by
  pointwise [k0_pay14]

/-- Three arrivals added. -/
theorem pay56_at (o : FVec Ideal S256x1024 .f32) (a b c : Vec Ideal S1x256x1024 .bf16) (r : Fin 256) (h : Fin 1024) :
    k0_pay56 o a b c (ix2 r h) = o (ix2 r h) + a (ix3 0 r h) + b (ix3 0 r h) + c (ix3 0 r h) := by
  pointwise [k0_pay56]
/-- Two arrivals added. -/
theorem pay57_at (o : FVec Ideal S256x1024 .f32) (a b : Vec Ideal S1x256x1024 .bf16) (r : Fin 256) (h : Fin 1024) :
    k0_pay57 o a b (ix2 r h) = o (ix2 r h) + a (ix3 0 r h) + b (ix3 0 r h) := by
  pointwise [k0_pay57]
/-- The last two arrivals added. -/
theorem pay58_at (o : FVec Ideal S256x1024 .f32) (a b : Vec Ideal S1x256x1024 .bf16) (r : Fin 256) (h : Fin 1024) :
    k0_pay58 o a b (ix2 r h) = o (ix2 r h) + a (ix3 0 r h) + b (ix3 0 r h) := by
  pointwise [k0_pay58]

/-- Rounding the tokens changes nothing. -/
theorem xbV_at (x : Vec Ideal S2048x1024 .f32) (t : Fin 2048) (k : Fin 1024) : xbV x (ix2 t k) = x (ix2 t k) := by
  unfold xbV; pointwise [k0_pay1]

/-- What device `c`'s experts add to token `r` of device `d`: the sum over them of the gate times the output. -/
theorem chunk_at (X : Vec Ideal S2048x1024 .bf16) (Wb : Vec Ideal S8x1024x1024 .bf16) (G : Vec Ideal S2048x8 .f32) (d : Dev nD) (r : Fin 256) (h : Fin 1024) :
    chunk X Wb G d (ix2 r h) = ∑ j : Fin 8, G (ix2 (rowAt d r) j) * ∑ k : Fin 1024, X (ix2 (rowAt d r) k) * Wb (ix3 j k h) := by
  unfold chunk gated
  simp only [pay16_at, pay14_at]
  rw [Fin.sum_univ_eight, zero_add]
  rfl

/-- The outputs of device `c`: the sum over the devices of what each adds. -/
theorem outV_at (own : FVec Ideal S256x1024 .f32) (R : (cc0_scratch5 : Ref sig .tc).ty.Contents (Elt Ideal)) (r : Fin 256) (h : Fin 1024) :
    outV own R (ix2 r h) = own (ix2 r h) + ∑ k : Fin 7, (show EReal from R (ix3 k r h)) := by
  unfold outV
  simp only [pay56_at, pay57_at, pay58_at]
  rw [Fin.sum_univ_seven]
  show (show EReal from own (ix2 r h)) + R (ix3 6 r h) + R (ix3 5 r h) + R (ix3 4 r h) + R (ix3 3 r h) + R (ix3 2 r h) + R (ix3 1 r h) + R (ix3 0 r h) = _
  generalize (show EReal from R (ix3 6 r h)) = a6
  generalize (show EReal from R (ix3 5 r h)) = a5
  generalize (show EReal from R (ix3 4 r h)) = a4
  generalize (show EReal from R (ix3 3 r h)) = a3
  generalize (show EReal from R (ix3 2 r h)) = a2
  generalize (show EReal from R (ix3 1 r h)) = a1
  generalize (show EReal from R (ix3 0 r h)) = a0
  abel

end Cert.MoE
end
-- ==== Proof.Gates.lean ====
module
public import proofs.«01_k».proof.Proof.Launch
public import proofs.«01_k».proof.Proof.Sums
/-! The gates the kernel computes, over the extended reals. -/
@[expose] public section
set_option maxRecDepth 16384
noncomputable section
namespace Cert.MoE
open Cert.KernelIdeal Cert.KernelIdeal.Gen
open Idealize.ShloMosaic

/-- The probability of expert `e` for token `t`. -/
def prob (x : Vec Ideal S2048x1024 .f32) (rw : Vec Ideal S1024x64 .f32) (t : Fin 2048) (e : Fin 64) : EReal := k0_pay3 (F := Ideal) x rw (ix2 t e)

/-- A choice made by comparing two words. -/
theorem select_eq {α : Type} (a b : BitVec 32) (u v : α) : Scalar.select (IntOp.cmpi .eq a b) u v = if a = b then u else v := by
  by_cases h : a = b
  · simp [Scalar.select, IntOp.cmpi, h]
  · have e : (a == b) = false := by simpa using h
    show (if BitVec.ofBool (a == b) = 1#1 then u else v) = _
    rw [e, if_neg h, if_neg (by decide)]

/-- The kernel's masked sum for the first choice picks that choice's probability. -/
theorem pay6_at (x : FVec Ideal S2048x1024 .f32) (rw : Vec Ideal S1024x64 .f32) (i : Vec Ideal S2048x1 .i32) (t : Fin 2048) :
    k0_pay6 x rw i (ix2 t 0) = pick (prob x rw t) (i (ix2 t 0)) := by
  pointwise [k0_pay6, k0_pay4]
  exact Finset.sum_congr rfl fun e _ => select_eq _ _ _ _
/-- The kernel's masked sum for the second choice picks that choice's probability. -/
theorem pay7_at (x : FVec Ideal S2048x1024 .f32) (rw : Vec Ideal S1024x64 .f32) (i : Vec Ideal S2048x1 .i32) (t : Fin 2048) :
    k0_pay7 x rw i (ix2 t 0) = pick (prob x rw t) (i (ix2 t 0)) := by
  pointwise [k0_pay7, k0_pay5]
  exact Finset.sum_congr rfl fun e _ => select_eq _ _ _ _
/-- The numbers of a device's experts. -/
theorem pay9_at (p : BitVec 32) (t : Fin 2048) (j : Fin 8) : k0_pay9 p (ix2 t j) = p * 8#32 + BitVec.ofNat 32 j.val := by
  pointwise [k0_pay9]
  rfl

/-- The weight of the choice `k` for token `t`: its probability over the sum of the two. -/
def weight (x : Vec Ideal S2048x1024 .f32) (rw : Vec Ideal S1024x64 .f32) (i : Vec Ideal S2048x2 .i32) (t : Fin 2048) (k : Fin 2) : EReal :=
  Ideal.div (pick (prob x rw t) (i (ix2 t k))) (pick (prob x rw t) (i (ix2 t 0)) + pick (prob x rw t) (i (ix2 t 1)))

/-- Equal choices have equal weights. -/
theorem weight_same (x : Vec Ideal S2048x1024 .f32) (rw : Vec Ideal S1024x64 .f32) (i : Vec Ideal S2048x2 .i32) (t : Fin 2048)
    (h : i (ix2 t 0) = i (ix2 t 1)) : weight x rw i t 0 = weight x rw i t 1 := by
  unfold weight; rw [h]

/-- The kernel's numbering of a device's experts is the global one. -/
theorem place_num (c : Dev nD) (j : Fin 8) : place c * 8#32 + BitVec.ofNat 32 j.val = num (expertOf c j) := by
  revert c j; decide

/-- Reading the tokens leaves them as they are. -/
theorem pay2_same (x : Vec Ideal S2048x1024 .f32) : k0_pay2 x = x := by
  funext i; pointwise [k0_pay2]

/-- THE GATE of expert `j` of device `c` for token `t`: the weights of the choices that name it. -/
theorem gate_at (c : Dev nD) (x : Vec Ideal S2048x1024 .f32) (rw : Vec Ideal S1024x64 .f32) (i : Vec Ideal S2048x2 .i32) (t : Fin 2048) (j : Fin 8) :
    gateV c x rw i (ix2 t j) = (if num (expertOf c j) = i (ix2 t 0) then weight x rw i t 0 else 0)
      + (if num (expertOf c j) = i (ix2 t 1) then weight x rw i t 1 else 0) := by
  unfold gateV
  rw [pay2_same]
  pointwise [k0_pay13, k0_pay12, k0_pay11, k0_pay10, k0_pay8, k0_pay5, k0_pay4]
  simp only [select_eq, pay9_at, pay6_at, pay7_at, place_num]
  rfl
end Cert.MoE
end
-- ==== Proof.Outs.lean ====
module
public import proofs.«01_k».proof.Proof.Kern
public import proofs.«01_k».proof.Proof.Gates
/-! What each device's outputs are, in terms of the whole arrays. -/
@[expose] public section
set_option maxRecDepth 16384
noncomputable section
namespace Cert.MoE
open Cert.KernelIdeal Cert.KernelIdeal.Gen
open Idealize.ShloMosaic
open Idealize.ShloMosaic.TcCoe

/-- A device and the seven others. -/
theorem sum_around (c : Dev nD) (f : Fin 8 → EReal) : f c + ∑ k : Fin 7, f (dst c k) = ∑ d : Fin 8, f d := by
  have hu : (Finset.univ : Finset (Fin 8)) = insert c (Finset.univ.image (dst c)) := by revert c; decide
  rw [hu, Finset.sum_insert (by revert c; decide), Finset.sum_image fun a _ b _ h => dst_inj_right c h]

/-- The output of expert `e` for token `t`, at feature `h`. -/
def expertOut (x : Vec Ideal S2048x1024 .f32) (W : (⟨3, ![64, 1024, 1024]⟩ : Shape).Idx → EReal) (t : Fin 2048) (h : Fin 1024) (e : Fin 64) : EReal :=
  ∑ k : Fin 1024, (show EReal from x (ix2 t k)) * W (ix3 e k h)

/-- A device's expert in the whole array of experts. -/
theorem block_expert (W : (⟨3, ![64, 1024, 1024]⟩ : Shape).Idx → EReal) (d j : Fin 8) (k h : Fin 1024) :
    Layout.block ⟨3, ![8, 1024, 1024]⟩ ⟨3, ![64, 1024, 1024]⟩ 0 8 d W (by decide) (ix3 j k h) = W (ix3 (expertOf d j) k h) := by
  rw [Layout.block_apply]
  refine congrArg W (funext fun a => ?_)
  fin_cases a
  · exact Fin.ext (show d.val * 8 + j.val = 8 * d.val + j.val by omega)
  · rfl
  · rfl

/-- What the experts of device `d` add to token `r` of device `c`. -/
theorem chunk_out (x : Vec Ideal S2048x1024 .f32) (rw : Vec Ideal S1024x64 .f32) (i : Vec Ideal S2048x2 .i32) (w : Vec Ideal S8x1024x1024 .f32)
    (W : (⟨3, ![64, 1024, 1024]⟩ : Shape).Idx → EReal) (d c : Dev nD) (hw : w = Layout.block ⟨3, ![8, 1024, 1024]⟩ ⟨3, ![64, 1024, 1024]⟩ 0 8 d W)
    (r : Fin 256) (h : Fin 1024) :
    chunk (xbV x) (wbV w) (gateV d x rw i) c (ix2 r h) = ∑ j : Fin 8,
      ((if num (expertOf d j) = i (ix2 (rowAt c r) 0) then weight x rw i (rowAt c r) 0 else 0)
        + (if num (expertOf d j) = i (ix2 (rowAt c r) 1) then weight x rw i (rowAt c r) 1 else 0)) * expertOut x W (rowAt c r) h (expertOf d j) := by
  rw [chunk_at]
  refine Finset.sum_congr rfl fun j _ => ?_
  rw [gate_at]
  refine congrArg _ (Finset.sum_congr rfl fun k _ => ?_)
  rw [xbV_at]
  refine congrArg _ ?_
  subst hw
  exact block_expert W d j k h

/-- THE OUTPUT of device `c`: for each of its tokens, the outputs of the two chosen experts, weighted. -/
theorem out_at (m : (ℓ : Loc nD τ sig) → Buf (Elt Ideal) ℓ) (x : Vec Ideal S2048x1024 .f32) (rw : Vec Ideal S1024x64 .f32) (i : Vec Ideal S2048x2 .i32)
    (W : (⟨3, ![64, 1024, 1024]⟩ : Shape).Idx → EReal) (hx : ∀ d, xOf m d = x) (hr : ∀ d, rwOf m d = rw) (hi : ∀ d, ixOf m d = i)
    (hw : ∀ d, wOf m d = Layout.block ⟨3, ![8, 1024, 1024]⟩ ⟨3, ![64, 1024, 1024]⟩ 0 8 d W) (c : Dev nD) (r : Fin 256) (h : Fin 1024) :
    outAt m c (ix2 r h) = weight x rw i (rowAt c r) 0 * pick (expertOut x W (rowAt c r) h) (i (ix2 (rowAt c r) 0))
      + weight x rw i (rowAt c r) 1 * pick (expertOut x W (rowAt c r) h) (i (ix2 (rowAt c r) 1)) := by
  rw [← gated_sum _ _ _ _ _ (weight_same x rw i _), ← sum_devices, ← sum_around c]
  unfold outAt
  rw [outV_at, hx, hr, hi, chunk_out x rw i _ W c c (hw c)]
  refine congrArg _ (Finset.sum_congr rfl fun k _ => ?_)
  refine Eq.trans ?_ (chunk_out x rw i (wOf m (dst c k)) W (dst c k) c (hw _) r h)
  show chunk (xbV (xOf m (dst c k))) (wbV (wOf m (dst c k))) (gateV (dst c k) (xOf m (dst c k)) (rwOf m (dst c k)) (ixOf m (dst c k)))
    (dst (dst c k) (Fin.rev k)) (ix2 r h) = _
  rw [dst_dst_rev, hx, hr, hi]

end Cert.MoE
end
-- ==== Proof.Ref.lean ====
module
public import proofs.«01_k».proof.Proof.Gates
public import proofs.«01_k».proof.Proof.Outs
public import proofs.«01_k».proof.Proof.Gen.ReferenceIdeal.Run
/-! The reference's values at an index, over the extended reals. -/
@[expose] public section
set_option maxRecDepth 16384
noncomputable section
namespace Cert.MoE
open Idealize.ShloMosaic
open Cert.ReferenceIdeal Cert.ReferenceIdeal.Gen

/-- The row a choice reads: its number, read signed and held within the table. -/
def row (w : BitVec 32) : Fin 64 := ⟨min w.toInt.toNat 63, by omega⟩

/-- A choice read from a table of one number per expert. -/
theorem gather2_at (P : S2048x64.Idx → EReal) (idx : IVec S2048x2x1 32) (t : Fin 2048) (k : Fin 2) :
    Host.gather gather_S2048x64_S2048x2x1_S2048x2_n_1_0_0_1_2_11 P idx (ix2 t k) = P (ix2 t (row (idx (ix3 t k 0)))) := by
  unfold Host.gather
  refine congrArg P (funext fun a => ?_)
  fin_cases a
  · refine Fin.ext ?_
    show 0 + t.val + 0 = t.val
    omega
  · refine Fin.ext ?_
    show min (idx _).toInt.toNat 63 + 0 + 0 = min (idx (ix3 t k 0)).toInt.toNat 63
    have e : gather_S2048x64_S2048x2x1_S2048x2_n_1_0_0_1_2_11.siIdx (ix2 t k) ⟨0, by decide⟩ = (ix3 t k 0 : S2048x2x1.Idx) := by
      funext b
      fin_cases b <;> rfl
    exact congrArg (fun z => min (idx z).toInt.toNat 63) e

/-- A choice read from a table of one row per expert. -/
theorem gather3_at (P : S2048x64x1024.Idx → EReal) (idx : IVec S2048x2x1 32) (t : Fin 2048) (k : Fin 2) (h : Fin 1024) :
    Host.gather gather_S2048x64x1024_S2048x2x1_S2048x2x1024_2_1_0_0_1_2_111024 P idx (ix3 t k h) = P (ix3 t (row (idx (ix3 t k 0))) h) := by
  unfold Host.gather
  refine congrArg P (funext fun a => ?_)
  fin_cases a
  · refine Fin.ext ?_
    show 0 + t.val + 0 = t.val
    omega
  · refine Fin.ext ?_
    show min (idx _).toInt.toNat 63 + 0 + 0 = min (idx (ix3 t k 0)).toInt.toNat 63
    have e : gather_S2048x64x1024_S2048x2x1_S2048x2x1024_2_1_0_0_1_2_111024.siIdx (ix3 t k h) ⟨0, by decide⟩ = (ix3 t k 0 : S2048x2x1.Idx) := by
      funext b
      fin_cases b <;> rfl
    exact congrArg (fun z => min (idx z).toInt.toNat 63) e
  · refine Fin.ext ?_
    show 0 + 0 + h.val = h.val
    omega

/-- A table's value at a row within it, zero for a number outside it, is the picked value. -/
theorem pick_row (f : Fin 64 → EReal) (w : BitVec 32) : (if 0 ≤ w.toInt ∧ w.toInt ≤ 63 then f (row w) else 0) = pick f w := by
  split
  · rename_i h
    have e : num (row w) = w := by
      apply BitVec.eq_of_toInt_eq
      simp only [num, row]
      have hm : min w.toInt.toNat 63 = w.toInt.toNat := by omega
      have hb := BitVec.toInt_ofNat' (n := 32) (x := w.toInt.toNat)
      rw [hm]
      refine hb.trans ?_
      rw [Int.toNat_of_nonneg h.1]
      exact Int.bmod_eq_of_le (by omega) (by omega)
    rw [← e, pick_num, e]
  · rename_i h
    refine (pick_none f w fun e he => h ?_).symm
    rw [← he]
    clear he; revert e; decide

/-- The two comparisons that say a word names an expert. -/
theorem in_table (w : BitVec 32) :
    IntOp.andi (IntOp.andi (IntOp.cmpi .sge w 0#32) (IntOp.cmpi .sle w 63#32)) 1#1 = 1#1 ↔ 0 ≤ w.toInt ∧ w.toInt ≤ 63 := by
  show (BitVec.ofBool (BitVec.sle 0#32 w) &&& BitVec.ofBool (BitVec.sle w 63#32)) &&& 1#1 = 1#1 ↔ _
  rw [BitVec.sle, BitVec.sle]
  have h0 : (0#32).toInt = 0 := by decide
  have h1 : (63#32).toInt = 63 := by decide
  rw [h0, h1]
  by_cases a : 0 ≤ w.toInt <;> by_cases b : w.toInt ≤ 63 <;> simp [a, b]

/-- Where a choice names an expert: the mask the reference computes. -/
theorem mask_at (idx : IVec S2048x2x1 32) (lo hi : IVec S2048x2x1 32) (hlo : ∀ j, lo j = 0#32) (hhi : ∀ j, hi j = 63#32)
    (hr : S2048x2x1.ReducesTo [2] S2048x2) (hS : 0 < S_.numel) (t : Fin 2048) (k : Fin 2) :
    Host.reduce IntOp.andi (andi (cmpi .sge idx lo) (cmpi .sle idx hi)) (constantI S_ 1 1#1) hr hS (ix2 t k) = 1#1
      ↔ 0 ≤ (idx (ix3 t k 0)).toInt ∧ (idx (ix3 t k 0)).toInt ≤ 63 := by
  have hR : S2048x2x1.Reduces [2] S2048x2 := by decide
  rw [Host.reduce_eq_fold_single IntOp.andi _ _ hr hR hS]
  have hl : hR.lift (ix2 t k) (0 : Fin 1) = (ix3 t k 0 : S2048x2x1.Idx) := by
    funext b
    fin_cases b <;> rfl
  show (Finset.univ : Finset (Fin 1)).fold IntOp.andi 1#1 (fun z : Fin 1 => IntOp.andi (IntOp.cmpi .sge (idx (hR.lift (ix2 t k) z)) (lo _))
    (IntOp.cmpi .sle (idx (hR.lift (ix2 t k) z)) (hi _))) = 1#1 ↔ _
  rw [Finset.univ_unique, Finset.fold_singleton]
  show IntOp.andi (IntOp.andi (IntOp.cmpi .sge (idx (hR.lift (ix2 t k) (0 : Fin 1))) (lo _)) (IntOp.cmpi .sle (idx (hR.lift (ix2 t k) (0 : Fin 1))) (hi _))) 1#1 = 1#1 ↔ _
  rw [hl, hlo, hhi]
  exact in_table _

/-- The choices, as the reference reads them. -/
abbrev refIdx (i : IVec S2048x2 32) : IVec S2048x2x1 32 := broadcastInDim S2048x2x1 ![0, 1] bcast_S2048x2_S2048x2x1_0_1 i
/-- The mask of the choices that name an expert. -/
def refMask (i : IVec S2048x2 32) : IVec S2048x2 1 :=
  Host.reduce IntOp.andi (andi (cmpi .sge (refIdx i) (broadcastInDim S2048x2x1 ![] bcast_S_S2048x2x1 (constantI S_ 32 0#32)))
    (cmpi .sle (refIdx i) (broadcastInDim S2048x2x1 ![0, 1, 2] bcast_S1x1x1_S2048x2x1_0_1_2 (broadcastInDim S1x1x1 ![2] bcast_S1_S1x1x1_2 (constantI S1 32 63#32)))))
    (constantI S_ 1 1#1) reducesTo_S2048x2x1_S2048x2_d2 h_S_
/-- The probabilities, as the reference computes them. -/
def refProb (x : FVec Ideal S2048x1024 .f32) (rw : FVec Ideal S1024x64 .f32) : FVec Ideal S2048x64 .f32 :=
  have s : FVec Ideal S2048x64 .f32 := Host.dotGeneral dot_S2048x1024_S1024x64_S2048x64_1_0_0_1_n_n none x rw
  have p : FVec Ideal S2048x64 .f32 := Host.exp (subf s (broadcastInDim S2048x64 ![0, 1] bcast_S2048x1_S2048x64_0_1
    (broadcastInDim S2048x1 ![0] bcast_S2048_S2048x1_0 (Host.reduce FloatOps.maximumf s (constant S_ .f32 0xFF800000#32) reducesTo_S2048x64_S2048_d1 h_S_))))
  Host.divf p (broadcastInDim S2048x64 ![0, 1] bcast_S2048x1_S2048x64_0_1
    (broadcastInDim S2048x1 ![0] bcast_S2048_S2048x1_0 (Host.reduceAdd p (constant S_ .f32 0x00000000#32) reducesTo_S2048x64_S2048_d1 h_S_)))
/-- The two chosen probabilities. -/
def refPick (x : FVec Ideal S2048x1024 .f32) (rw : FVec Ideal S1024x64 .f32) (i : IVec S2048x2 32) : FVec Ideal S2048x2 .f32 :=
  select (refMask i) (Host.gather gather_S2048x64_S2048x2x1_S2048x2_n_1_0_0_1_2_11 (refProb x rw) (refIdx i))
    (broadcastInDim S2048x2 ![] bcast_S_S2048x2 (constant S_ .f32 0x00000000#32))
/-- The two chosen outputs. -/
def refOut (x : FVec Ideal S2048x1024 .f32) (i : IVec S2048x2 32) (W : FVec Ideal S64x1024x1024 .f32) : FVec Ideal S2048x2x1024 .f32 :=
  select (broadcastInDim S2048x2x1024 ![0, 1] bcast_S2048x2_S2048x2x1024_0_1 (refMask i))
    (Host.gather gather_S2048x64x1024_S2048x2x1_S2048x2x1024_2_1_0_0_1_2_111024
      (Host.dotGeneral dot_S2048x1024_S64x1024x1024_S2048x64x1024_1_1_0_02_n_n none x W) (refIdx i))
    (broadcastInDim S2048x2x1024 ![] bcast_S_S2048x2x1024 (constant S_ .f32 0x00000000#32))
/-- The result. -/
def refRes (g : FVec Ideal S2048x2 .f32) (y : FVec Ideal S2048x2x1024 .f32) : FVec Ideal S2048x1024 .f32 :=
  addf (mulf (broadcastInDim S2048x1024 ![0, 1] bcast_S2048x1_S2048x1024_0_1 (Host.divf (extractStridedSlice S2048x1 ![0, 0] g slices_S2048x2_S2048x1_0_0)
      (addf (extractStridedSlice S2048x1 ![0, 0] g slices_S2048x2_S2048x1_0_0) (extractStridedSlice S2048x1 ![0, 1] g slices_S2048x2_S2048x1_0_1))))
      (shapeCast _ (extractStridedSlice S2048x1x1024 ![0, 0, 0] y slices_S2048x2x1024_S2048x1x1024_0_0_0) shapeCasts_S2048x1x1024_S2048x1024))
    (mulf (broadcastInDim S2048x1024 ![0, 1] bcast_S2048x1_S2048x1024_0_1 (Host.divf (extractStridedSlice S2048x1 ![0, 1] g slices_S2048x2_S2048x1_0_1)
      (addf (extractStridedSlice S2048x1 ![0, 0] g slices_S2048x2_S2048x1_0_0) (extractStridedSlice S2048x1 ![0, 1] g slices_S2048x2_S2048x1_0_1))))
      (shapeCast _ (extractStridedSlice S2048x1x1024 ![0, 1, 0] y slices_S2048x2x1024_S2048x1x1024_0_1_0) shapeCasts_S2048x1x1024_S2048x1024))

/-- The reference's result is these steps in order. -/
theorem res_steps (m : (ℓ : Loc nD τ sig) → Buf (Elt Ideal) ℓ) (c : Dev nD) :
    Value.res_main_v47 m c = refRes (refPick (m ((c.tc : Thread nD τ).loc main_arg0)) (m ((c.tc : Thread nD τ).loc main_arg1)) (m ((c.tc : Thread nD τ).loc main_arg2)))
      (refOut (m ((c.tc : Thread nD τ).loc main_arg0)) (m ((c.tc : Thread nD τ).loc main_arg2)) (m ((c.tc : Thread nD τ).loc main_arg3))) := rfl

/-- A choice, read back. -/
theorem refIdx_at (i : IVec S2048x2 32) (t : Fin 2048) (k : Fin 2) : refIdx i (ix3 t k 0) = i (ix2 t k) := by pointwise []

/-- The mask says whether a choice names an expert. -/
theorem refMask_at (i : IVec S2048x2 32) (t : Fin 2048) (k : Fin 2) :
    refMask i (ix2 t k) = 1#1 ↔ 0 ≤ (i (ix2 t k)).toInt ∧ (i (ix2 t k)).toInt ≤ 63 := by
  unfold refMask
  refine (mask_at (refIdx i) _ _ (fun _ => rfl) (fun _ => rfl) _ _ t k).trans ?_
  rw [refIdx_at]

/-- The reference's softmax is the kernel's. -/
theorem refProb_at (x : FVec Ideal S2048x1024 .f32) (rw : FVec Ideal S1024x64 .f32) (t : Fin 2048) (e : Fin 64) : refProb x rw (ix2 t e) = prob x rw t e := by
  unfold prob
  pointwise [refProb, KernelIdeal.Gen.k0_pay3]

/-- The reference looks up the picked probability. -/
theorem refPick_at (x : FVec Ideal S2048x1024 .f32) (rw : FVec Ideal S1024x64 .f32) (i : IVec S2048x2 32) (t : Fin 2048) (k : Fin 2) :
    refPick x rw i (ix2 t k) = pick (prob x rw t) (i (ix2 t k)) := by
  refine Eq.trans ?_ (pick_row _ _)
  unfold refPick
  pointwise []
  rw [gather2_at, refIdx_at, refProb_at]
  exact if_congr (refMask_at i t k) rfl rfl

/-- The reference looks up the picked expert's output. -/
theorem refOut_at (x : FVec Ideal S2048x1024 .f32) (i : IVec S2048x2 32) (W : FVec Ideal S64x1024x1024 .f32) (t : Fin 2048) (k : Fin 2) (h : Fin 1024) :
    refOut x i W (ix3 t k h) = pick (expertOut x W t h) (i (ix2 t k)) := by
  refine Eq.trans ?_ (pick_row _ _)
  unfold refOut
  pointwise []
  rw [gather3_at, refIdx_at]
  pointwise []
  exact if_congr (refMask_at i t k) rfl rfl

/-- The reference's result from the two chosen probabilities and outputs. -/
theorem refRes_at (g : FVec Ideal S2048x2 .f32) (y : FVec Ideal S2048x2x1024 .f32) (t : Fin 2048) (h : Fin 1024) :
    refRes g y (ix2 t h) = Ideal.div (g (ix2 t 0)) (g (ix2 t 0) + g (ix2 t 1)) * y (ix3 t 0 h) + Ideal.div (g (ix2 t 1)) (g (ix2 t 0) + g (ix2 t 1)) * y (ix3 t 1 h) := by
  pointwise [refRes]

end Cert.MoE
end
-- ==== Proof.Algebraic.lean ====
module
public import proofs.«01_k».proof.Defs
public import proofs.«01_k».proof.Proof.Gen.KernelIdeal
public import proofs.«01_k».proof.Proof.Gen.ReferenceIdeal
public import proofs.«01_k».proof.Proof.Frames
public import proofs.«01_k».proof.Proof.Outs
public import proofs.«01_k».proof.Proof.Ref
/-! The kernel's outputs on device `c` are block `c` of the reference's. -/
@[expose] public section
set_option maxRecDepth 16384
noncomputable section
namespace Cert.MoE
open Idealize.ShloMosaic
open Idealize.ShloMosaic.TcCoe
open Idealize.SL.Sem

/-- The reference's result for token `t` at feature `h`: the outputs of the two chosen experts, weighted. -/
theorem ref_at (m' : (ℓ : Loc ReferenceIdeal.nD ReferenceIdeal.τ ReferenceIdeal.sig) → Buf (Elt Ideal) ℓ) (c : Dev ReferenceIdeal.nD)
    (x : FVec Ideal ReferenceIdeal.S2048x1024 .f32) (rw : FVec Ideal ReferenceIdeal.S1024x64 .f32) (i : IVec ReferenceIdeal.S2048x2 32)
    (W : FVec Ideal ReferenceIdeal.S64x1024x1024 .f32)
    (hx : m' (c.tc.loc ReferenceIdeal.main_arg0) = x) (hr : m' (c.tc.loc ReferenceIdeal.main_arg1) = rw)
    (hi : m' (c.tc.loc ReferenceIdeal.main_arg2) = i) (hW : m' (c.tc.loc ReferenceIdeal.main_arg3) = W) (t : Fin 2048) (h : Fin 1024) :
    ReferenceIdeal.Value.res_main_v47 m' c (ix2 t h) = weight x rw i t 0 * pick (expertOut x W t h) (i (ix2 t 0))
      + weight x rw i t 1 * pick (expertOut x W t h) (i (ix2 t 1)) := by
  rw [res_steps, hx, hr, hi, hW, refRes_at, refPick_at, refPick_at, refOut_at, refOut_at]
  rfl

/-- A token of block `c`, in the whole result. -/
theorem block_row (v : (⟨2, ![2048, 1024]⟩ : Shape).Idx → EReal) (c : Fin 8) (r : Fin 256) (h : Fin 1024) :
    Layout.block ⟨2, ![256, 1024]⟩ ⟨2, ![2048, 1024]⟩ 0 8 c v (by decide) (ix2 r h) = v (ix2 (rowAt c r) h) := by
  rw [Layout.block_apply]
  refine congrArg v (funext fun a => ?_)
  fin_cases a
  · exact Fin.ext (show c.val * 256 + r.val = 256 * c.val + r.val by omega)
  · rfl

/-- THE VALUES: from arguments that agree, the kernel leaves on each device its block of what the reference leaves. -/
theorem algebraic : Cert.algebraic_KernelIdeal_ReferenceIdeal := by
  intro m g m' g' _ hargs
  refine ⟨ReferenceIdeal.Value.res_main_v47 m' 0, ?_, ?_⟩
  · refine (θ_run _ _ _).mono (fun _ h c => ⟨(h.1 c).1.trans ?_, (h.1 c).2⟩) (run_values m g)
    funext j
    rw [eq_ix2 j]
    refine Eq.trans ?_ (block_row _ c (j 0) (j 1)).symm
    refine Eq.trans ?_ (ref_at m' 0 _ _ _ _ rfl rfl rfl rfl (rowAt c (j 0)) (j 1)).symm
    exact out_at m _ _ _ _ (fun d => (xOf_eq m d).trans (hargs d).1) (fun d => (rwOf_eq m d).trans (hargs d).2.1)
      (fun d => (ixOf_eq m d).trans (hargs d).2.2.1) (fun d => (hargs d).2.2.2) c (j 0) (j 1)
  · exact (θ_run _ _ _).mono (fun _ h => h 0) (ReferenceIdeal.Value.run m' g')

end Cert.MoE
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- Everything claimed: the three frames; no operation is rewritten, so there is nothing to preserve; and the
    kernel's outputs on every device are its block of the reference's. -/
theorem claim : Cert.Claim := ⟨Cert.Kernel.Gen.facts, Cert.KernelIdeal.Gen.facts, Cert.ReferenceIdeal.Gen.facts,
  Cert.MoE.frame_kernel, Cert.MoE.frame_kernelIdeal, Cert.MoE.frame_reference, trivial, Cert.MoE.algebraic⟩

end Cert.Proof

end
